-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x4096 : Shape := ⟨3, ![4, 4096, 4096]⟩
abbrev S4x2 : Shape := ⟨2, ![4, 2]⟩
abbrev S1x1x2 : Shape := ⟨3, ![1, 1, 2]⟩
abbrev S4x1 : Shape := ⟨2, ![4, 1]⟩
abbrev S4 : Shape := ⟨1, ![4]⟩
abbrev S_ : Shape := ⟨0, ![]⟩
abbrev S1x1x1 : Shape := ⟨3, ![1, 1, 1]⟩
abbrev S4x4 : Shape := ⟨2, ![4, 4]⟩
abbrev S4x512x512 : Shape := ⟨3, ![4, 512, 512]⟩
abbrev S4x512x8x128 : Shape := ⟨4, ![4, 512, 8, 128]⟩
abbrev S1x1024x4096 : Shape := ⟨3, ![1, 1024, 4096]⟩
abbrev S1x512x512 : Shape := ⟨3, ![1, 512, 512]⟩
abbrev S1x512x8x128 : Shape := ⟨4, ![1, 512, 8, 128]⟩
abbrev S512x512 : Shape := ⟨2, ![512, 512]⟩
abbrev S1 : Shape := ⟨1, ![1]⟩
abbrev S4096x512 : Shape := ⟨2, ![4096, 512]⟩
abbrev S1024x4096 : Shape := ⟨2, ![1024, 4096]⟩
abbrev S128x1024 : Shape := ⟨2, ![128, 1024]⟩
abbrev S128x4096 : Shape := ⟨2, ![128, 4096]⟩
abbrev S128x512 : Shape := ⟨2, ![128, 512]⟩
abbrev S1x128x512 : Shape := ⟨3, ![1, 128, 512]⟩
abbrev S1x1 : Shape := ⟨2, ![1, 1]⟩
abbrev S128x8x128 : Shape := ⟨3, ![128, 8, 128]⟩
abbrev S1x128x8x128 : Shape := ⟨4, ![1, 128, 8, 128]⟩
abbrev S4x2048x2x128 : Shape := ⟨4, ![4, 2048, 2, 128]⟩
abbrev S4x2048x128x2 : Shape := ⟨4, ![4, 2048, 128, 2]⟩
abbrev S4x262144x2 : Shape := ⟨3, ![4, 262144, 2]⟩
abbrev S4x262144 : Shape := ⟨2, ![4, 262144]⟩

abbrev nBuf : Space → Nat
  | .hbm => 43
  | .vmem => 8
  | .smem => 2
  | _ => 0

abbrev bufTy : (tb : Table) → Fin (tcTables nBuf tb) → BufTy
  | .hbm, ⟨0, _⟩ => ⟨S4x4096x4096, .f32⟩
  | .hbm, ⟨1, _⟩ => ⟨S4x2, .f32⟩
  | .hbm, ⟨2, _⟩ => ⟨S4x2, .f32⟩
  | .hbm, ⟨3, _⟩ => ⟨S1x1x2, .f32⟩
  | .hbm, ⟨4, _⟩ => ⟨S4x1, .f32⟩
  | .hbm, ⟨5, _⟩ => ⟨S4, .f32⟩
  | .hbm, ⟨6, _⟩ => ⟨S4x1, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4x1, .f32⟩
  | .hbm, ⟨13, _⟩ => ⟨S4, .f32⟩
  | .hbm, ⟨14, _⟩ => ⟨S4x1, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4x1, .f32⟩
  | .hbm, ⟨21, _⟩ => ⟨S4, .f32⟩
  | .hbm, ⟨22, _⟩ => ⟨S1x1x1, .f32⟩
  | .hbm, ⟨23, _⟩ => ⟨S_, .f32⟩
  | .hbm, ⟨24, _⟩ => ⟨S4, .f32⟩
  | .hbm, ⟨25, _⟩ => ⟨S4, .f32⟩
  | .hbm, ⟨26, _⟩ => ⟨S4x1, .f32⟩
  | .hbm, ⟨27, _⟩ => ⟨S4, .f32⟩
  | .hbm, ⟨28, _⟩ => ⟨S1x1x1, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4x1, .f32⟩
  | .hbm, ⟨33, _⟩ => ⟨S4x1, .f32⟩
  | .hbm, ⟨34, _⟩ => ⟨S4x1, .f32⟩
  | .hbm, ⟨35, _⟩ => ⟨S4x1, .f32⟩
  | .hbm, ⟨36, _⟩ => ⟨S4x4, .f32⟩
  | .hbm, ⟨37, _⟩ => ⟨S4x512x512, .f32⟩
  | .hbm, ⟨38, _⟩ => ⟨S4x512x8x128, .f32⟩
  | .hbm, ⟨39, _⟩ => ⟨S4x2048x2x128, .f32⟩
  | .hbm, ⟨40, _⟩ => ⟨S4x2048x128x2, .f32⟩
  | .hbm, ⟨41, _⟩ => ⟨S4x262144x2, .f32⟩
  | .hbm, ⟨42, _⟩ => ⟨S4x262144, .f32⟩
  | .local _ .vmem, ⟨0, _⟩ => ⟨S1x1024x4096, .f32⟩
  | .local _ .vmem, ⟨1, _⟩ => ⟨S1x1024x4096, .f32⟩
  | .local _ .vmem, ⟨2, _⟩ => ⟨S1x512x512, .f32⟩
  | .local _ .vmem, ⟨3, _⟩ => ⟨S1x512x512, .f32⟩
  | .local _ .vmem, ⟨4, _⟩ => ⟨S1x512x8x128, .f32⟩
  | .local _ .vmem, ⟨5, _⟩ => ⟨S1x512x8x128, .f32⟩
  | .local _ .vmem, ⟨6, _⟩ => ⟨S512x512, .f32⟩
  | .local _ .vmem, ⟨7, _⟩ => ⟨S4096x512, .f32⟩
  | .local _ .smem, ⟨0, _⟩ => ⟨S4x4, .f32⟩
  | .local _ .smem, ⟨1, _⟩ => ⟨S1, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31_0 : Ref sig .tc := ⟨.hbm, 37, rfl⟩
abbrev main_v31_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch2 : Ref sig .tc := ⟨.vmem, 7, rfl⟩
abbrev cc0_stg0_0 : Ref sig .tc := ⟨.smem, 0, rfl⟩
abbrev cc0_scratch1 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg1 : BitVec 32 := BitVec.ofNat 32 (i 1).val
  let c128_i32 : BitVec 32 := 128#32
  let v39 : BitVec 32 := Scalar.muli arg1 c128_i32
  let v40 : Index := Scalar.indexCast v39
  let c0_12 : Index := 0#32
  ![v40.toNat, 0]
def k0_off2 (i : grid0.Coords) : Fin 2 → Nat :=
  let arg0 : BitVec 32 := BitVec.ofNat 32 (i 0).val
  let v54 : Index := Scalar.indexCast arg0
  let c0_18 : Index := 0#32
  ![v54.toNat, 0]
def k0_off3 (i : grid0.Coords) : Fin 2 → Nat :=
  let arg0 : BitVec 32 := BitVec.ofNat 32 (i 0).val
  let v56 : Index := Scalar.indexCast arg0
  let c1 : Index := 1#32
  ![v56.toNat, 1]
def k0_off4 (i : grid0.Coords) : Fin 2 → Nat :=
  let arg0 : BitVec 32 := BitVec.ofNat 32 (i 0).val
  let v58 : Index := Scalar.indexCast arg0
  let c2 : Index := 2#32
  ![v58.toNat, 2]
def k0_off5 (i : grid0.Coords) : Fin 2 → Nat :=
  let arg0 : BitVec 32 := BitVec.ofNat 32 (i 0).val
  let v60 : Index := Scalar.indexCast arg0
  let c3 : Index := 3#32
  ![v60.toNat, 3]
def k0_off6 (i : grid0.Coords) : Fin 4 → Nat :=
  let c0_49 : Index := 0#32
  let arg1 : BitVec 32 := BitVec.ofNat 32 (i 1).val
  let c128_i32_48 : BitVec 32 := 128#32
  let v171 : BitVec 32 := Scalar.muli arg1 c128_i32_48
  let v172 : Index := Scalar.indexCast v171
  let c0_50 : Index := 0#32
  let c0_51 : Index := 0#32
  ![0, v172.toNat, 0, 0]
def k0_cond4 (i : grid0.Coords) : BitVec 1 :=
  let arg1 : BitVec 32 := BitVec.ofNat 32 (i 1).val
  let c3_i32 : BitVec 32 := 3#32
  let v176 : BitVec 1 := Scalar.cmpi .eq arg1 c3_i32
  let v177 : BitVec 32 := Scalar.extui v176
  let c0_i32_52 : BitVec 32 := 0#32
  let v178 : BitVec 1 := Scalar.cmpi .ne v177 c0_i32_52
  v178

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S4x4096x4096 : Shape := ⟨3, ![4, 4096, 4096]⟩
abbrev S4x2 : Shape := ⟨2, ![4, 2]⟩
abbrev S1x1x2 : Shape := ⟨3, ![1, 1, 2]⟩
abbrev S4x512x8x512x8 : Shape := ⟨5, ![4, 512, 8, 512, 8]⟩
abbrev S_ : Shape := ⟨0, ![]⟩
abbrev S4x512x512 : Shape := ⟨3, ![4, 512, 512]⟩
abbrev S512 : Shape := ⟨1, ![512]⟩
abbrev S4x1 : Shape := ⟨2, ![4, 1]⟩
abbrev S1x512 : Shape := ⟨2, ![1, 512]⟩
abbrev S4x512 : Shape := ⟨2, ![4, 512]⟩
abbrev S4x512x1 : Shape := ⟨3, ![4, 512, 1]⟩
abbrev S4x1x512 : Shape := ⟨3, ![4, 1, 512]⟩
abbrev S4x512x512x1 : Shape := ⟨4, ![4, 512, 512, 1]⟩
abbrev S4x512x512x2 : Shape := ⟨4, ![4, 512, 512, 2]⟩
abbrev S4x262144x2 : Shape := ⟨3, ![4, 262144, 2]⟩
abbrev S4x262144 : Shape := ⟨2, ![4, 262144]⟩
abbrev S4 : Shape := ⟨1, ![4]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x2, .f32⟩
  | .hbm, ⟨2, _⟩ => ⟨S4x2, .f32⟩
  | .hbm, ⟨3, _⟩ => ⟨S1x1x2, .f32⟩
  | .hbm, ⟨4, _⟩ => ⟨S4x512x8x512x8, .f32⟩
  | .hbm, ⟨5, _⟩ => ⟨S_, .f32⟩
  | .hbm, ⟨6, _⟩ => ⟨S4x512x512, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S4x1, .f32⟩
  | .hbm, ⟨22, _⟩ => ⟨S1x512, .f32⟩
  | .hbm, ⟨23, _⟩ => ⟨S4x1, .f32⟩
  | .hbm, ⟨24, _⟩ => ⟨S4x1, .f32⟩
  | .hbm, ⟨25, _⟩ => ⟨S4x1, .f32⟩
  | .hbm, ⟨26, _⟩ => ⟨S4x512, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S4x512, .f32⟩
  | .hbm, ⟨31, _⟩ => ⟨S4x1, .f32⟩
  | .hbm, ⟨32, _⟩ => ⟨S1x512, .f32⟩
  | .hbm, ⟨33, _⟩ => ⟨S4x1, .f32⟩
  | .hbm, ⟨34, _⟩ => ⟨S4x1, .f32⟩
  | .hbm, ⟨35, _⟩ => ⟨S4x1, .f32⟩
  | .hbm, ⟨36, _⟩ => ⟨S4x512, .f32⟩
  | .hbm, ⟨37, _⟩ => ⟨S4x512, .f32⟩
  | .hbm, ⟨38, _⟩ => ⟨S4x512, .f32⟩
  | .hbm, ⟨39, _⟩ => ⟨S4x512, .f32⟩
  | .hbm, ⟨40, _⟩ => ⟨S4x512, .f32⟩
  | .hbm, ⟨41, _⟩ => ⟨S4x512x1, .f32⟩
  | .hbm, ⟨42, _⟩ => ⟨S4x512x512, .f32⟩
  | .hbm, ⟨43, _⟩ => ⟨S4x1x512, .f32⟩
  | .hbm, ⟨44, _⟩ => ⟨S4x512x512, .f32⟩
  | .hbm, ⟨45, _⟩ => ⟨S4x512x512x1, .f32⟩
  | .hbm, ⟨46, _⟩ => ⟨S4x512x512x1, .f32⟩
  | .hbm, ⟨47, _⟩ => ⟨S4x512x512x2, .f32⟩
  | .hbm, ⟨48, _⟩ => ⟨S4x262144x2, .f32⟩
  | .hbm, ⟨49, _⟩ => ⟨S4x262144, .f32⟩
  | .hbm, ⟨50, _⟩ => ⟨S_, .f32⟩
  | .hbm, ⟨51, _⟩ => ⟨S4, .f32⟩
  | .hbm, ⟨52, _⟩ => ⟨S4x1, .f32⟩
  | .hbm, ⟨53, _⟩ => ⟨S_, .f32⟩
  | .hbm, ⟨54, _⟩ => ⟨S_, .f32⟩
  | .hbm, ⟨55, _⟩ => ⟨S4x1, .f32⟩
  | .hbm, ⟨56, _⟩ => ⟨S4x1, .f32⟩
  | .hbm, ⟨57, _⟩ => ⟨S4x262144, .f32⟩
  | .hbm, ⟨58, _⟩ => ⟨S4x262144, .f32⟩
  | .hbm, ⟨59, _⟩ => ⟨S4x262144x2, .f32⟩
  | .hbm, ⟨60, _⟩ => ⟨S4x262144x2, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Proof.Points.lean ====
/-
  Where the kernel's branches are taken, and the buffers a grid point works on.

  The grid has 16 points, four batches of four row tiles: point `t` is row tile `t % 4` of batch `t / 4`. The body
  branches on «first point of all», «first tile of its batch», «a later tile» and «last tile of its batch».
-/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A point's number is below 16. -/
theorem pt_lt (t : Fin cfg0.N) : t.val < 16 := lt_of_lt_of_eq t.isLt N_0

/-- The batch of a point is its number divided by 4. -/
theorem coord0 (t : Fin cfg0.N) : (grid0.coords t 0).val = t.val / 4 := by
  have h : (grid0.coords t 0).val = t.val / 4 % 4 := Pipeline.Grid.coords_val t 0 (by decide) rfl
  have := pt_lt t
  omega

/-- The row tile of a point is its number modulo 4. -/
theorem coord1 (t : Fin cfg0.N) : (grid0.coords t 1).val = t.val % 4 := by
  have h : (grid0.coords t 1).val = t.val / 1 % 4 := Pipeline.Grid.coords_val t 1 (by decide) rfl
  omega

/-- The body's first branch: taken at the first point of all. -/
abbrev isStart (i : grid0.Coords) : Prop :=
  Scalar.cmpi .ne (Scalar.extui (Scalar.andi (Scalar.cmpi .eq (BitVec.ofNat 32 (i 0).val) 0#32)
    (Scalar.cmpi .eq (BitVec.ofNat 32 (i 1).val) 0#32)) : BitVec 32) 0#32 = 1#1

/-- The body's second branch: taken at a batch's first tile. -/
abbrev isFirst (i : grid0.Coords) : Prop :=
  Scalar.cmpi .ne (Scalar.extui (Scalar.cmpi .eq (BitVec.ofNat 32 (i 1).val) 0#32) : BitVec 32) 0#32 = 1#1

/-- The body's third branch: taken at a batch's later tiles. -/
abbrev isLater (i : grid0.Coords) : Prop :=
  Scalar.cmpi .ne (Scalar.extui (Scalar.cmpi .ne (BitVec.ofNat 32 (i 1).val) 0#32) : BitVec 32) 0#32 = 1#1

/-- The body's fourth branch: taken at a batch's last tile. -/
abbrev isLast (i : grid0.Coords) : Prop := k0_cond4 i = 1#1

theorem isStart_iff (t : Fin cfg0.N) : isStart (grid0.coords t) ↔ t.val = 0 := by
  have ht := pt_lt t
  have e0 := coord0 t
  have e1 := coord1 t
  simp only [isStart, e0, e1]
  word_cmp

theorem isFirst_iff (t : Fin cfg0.N) : isFirst (grid0.coords t) ↔ t.val % 4 = 0 := by
  have ht := pt_lt t
  have e1 := coord1 t
  simp only [isFirst, e1]
  word_cmp

theorem isLater_iff (t : Fin cfg0.N) : isLater (grid0.coords t) ↔ 1 ≤ t.val % 4 := by
  have ht := pt_lt t
  have e1 := coord1 t
  simp only [isLater, e1]
  word_cmp

theorem isLast_iff (t : Fin cfg0.N) : isLast (grid0.coords t) ↔ t.val % 4 = 3 := by
  have ht := pt_lt t
  have e1 := coord1 t
  simp only [isLast, k0_cond4, e1]
  word_cmp

/-! ## The buffers a point works on -/

/-- Each window's staging buffer at a point, and that it is a whole buffer. -/
abbrev st0 (t : Fin cfg0.N) : Memref sig .tc .smem S4x4 .f32 := win0_0.stage (cfg0.slots t 0)
abbrev st1 (t : Fin cfg0.N) : Memref sig .tc .vmem S1x1024x4096 .f32 := win0_1.stage (cfg0.slots t 1)
abbrev st2 (t : Fin cfg0.N) : Memref sig .tc .vmem S1x512x512 .f32 := win0_2.stage (cfg0.slots t 2)
abbrev st3 (t : Fin cfg0.N) : Memref sig .tc .vmem S1x512x8x128 .f32 := win0_3.stage (cfg0.slots t 3)
abbrev st0_whole (t : Fin cfg0.N) : (st0 t).IsWhole := hstage0_0 ((cfg0.slots t 0).cast nbuf0_0)
abbrev st1_whole (t : Fin cfg0.N) : (st1 t).IsWhole := hstage0_1 ((cfg0.slots t 1).cast nbuf0_1)
abbrev st2_whole (t : Fin cfg0.N) : (st2 t).IsWhole := hstage0_2 ((cfg0.slots t 2).cast nbuf0_2)
abbrev st3_whole (t : Fin cfg0.N) : (st3 t).IsWhole := hstage0_3 ((cfg0.slots t 3).cast nbuf0_3)

/-- The scratch buffers: the pooled rows of the batch, their running total, the 0/1 column matrix. -/
abbrev accM : Memref sig .tc .vmem S512x512 .f32 := Memref.whole cc0_scratch0
abbrev totM : Memref sig .tc .smem S1 .f32 := Memref.whole cc0_scratch1
abbrev matM : Memref sig .tc .vmem S4096x512 .f32 := Memref.whole cc0_scratch2

/-- The scratch at some contents and the generator register at some state: what the region starts and ends with. -/
theorem start_eq (c : Dev nD) :
    (Pipeline.ΦA spec0 c : sProp 𝕄)
      = iprop(iprop((∃ d, owns (c : Thread nD τ) accM fullShare d) ∗ (∃ d, owns (c : Thread nD τ) matM fullShare d)
          ∗ (∃ d, owns (c : Thread nD τ) totM fullShare d)) ∗ (∃ r, prngReg c r)) := by
  unfold Pipeline.ΦA; rw [scopedRest0_eq]; simp only [accM, totM, matM, owns_whole]; try rfl

end Cert.KernelIdeal.Hand

end
-- ==== Proof.Tile.lean ====
/-
  What one grid point computes, as functions of the blocks and scratch contents it starts from.

  At row tile `i 1` of batch `i 0` the body pools the histogram block, stores the pooled rows into the batch's
  accumulator, adds them to the running total, and stores a tile of the support grid; at a batch's last tile it
  also stores the accumulator scaled by the inverse of the total.
-/
module

public import proofs.«01_k».proof.Proof.Points
public import Idealize.ShloMosaic.Lib.Pointwise
public import Idealize.ShloMosaic.Lib.WritesUnit
public import Idealize.ShloMosaic.Lib.VecWindow
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- Entry `k` of the parameter row of the point's batch. -/
def param (x : Vec F S4x4 .f32) (i : grid0.Coords) (k : Fin 4) : Elt F .f32 :=
  x (ix2 (⟨(i 0).val, (i 0).isLt⟩ : Fin 4) k)

/-- The support grid's tile at a point: the x and y coordinates of 128 · 512 cells, interleaved. -/
def suppTile (i : grid0.Coords) (x : Vec F S4x4 .f32) : FVec F S1x128x8x128 .f32 :=
  let s : IVec S128x8x128 32 := iota .tc S128x8x128 32 [1] iota_S128x8x128_d1_w32
  let l : IVec S128x8x128 32 := iota .tc S128x8x128 32 [2] iota_S128x8x128_d2_w32
  let u : IVec S128x8x128 32 := k0_pay8 (BitVec.ofNat 32 (i 1).val)
  let b : BitVec 1 := Scalar.cmpi .sgt 2#32 0#32
  k0_pay1 (k0_pay15 (param x i 2) (param x i 3) s (k0_pay11 s l u 2#32 k0_pay9 k0_pay10 b)
    (k0_pay12 (param x i 0) (param x i 1) s l u 2#32 k0_pay9 k0_pay10 b) 512#32
    (k0_pay13 s l u 2#32 k0_pay9 k0_pay10 b) (k0_pay14 s l u 2#32 k0_pay9 k0_pay10 b) 0#32)

/-- The accumulator with the point's 128 rows replaced. -/
def accPut (i : grid0.Coords) (a : Vec F S512x512 .f32) (p : FVec F S128x512 .f32) : Vec F S512x512 .f32 := fun y =>
  if h : ∀ k, (![128 * (i 1).val, 0] : Fin 2 → ℕ) k ≤ (y k).val ∧ (y k).val < (![128 * (i 1).val, 0] : Fin 2 → ℕ) k + S128x512.size k then
    p (Rect.unitLocal (s := S512x512) (off := ![128 * (i 1).val, 0]) (size := S128x512.size) y h)
  else a y

/-- The support block with the point's 128 rows replaced. -/
def suppPut (i : grid0.Coords) (a : Vec F S1x512x8x128 .f32) (p : FVec F S1x128x8x128 .f32) : Vec F S1x512x8x128 .f32 := fun y =>
  if h : ∀ k, (![0, 128 * (i 1).val, 0, 0] : Fin 4 → ℕ) k ≤ (y k).val
      ∧ (y k).val < (![0, 128 * (i 1).val, 0, 0] : Fin 4 → ℕ) k + S1x128x8x128.size k then
    p (Rect.unitLocal (s := S1x512x8x128) (off := ![0, 128 * (i 1).val, 0, 0]) (size := S1x128x8x128.size) y h)
  else a y

/-- The running total in its one cell. -/
abbrev cell (x : F .f32) : Vec F S1 .f32 := fun _ => x

/-- A store of the point's 128 accumulator rows reads back as the accumulator with those rows replaced. -/
theorem read_acc {M : Memref sig .tc .vmem S512x512 .f32} (h : M.IsWhole) (i : grid0.Coords) (a : Vec F S512x512 .f32)
    (p : FVec F S128x512 .f32) :
    M.view.read (Elt F) (M.view.writes (Elt F) (h.unread a)
      [⟨Rect.unit (s := S512x512) (k0_off1 i) S128x512.size (k0_off1_inb i), p⟩]) = accPut i a p := by
  funext y
  rw [View.read_writes_cons_unit _ _ _ _ _ _ (k0_off1_eq i), View.writes_nil, h.read_unread]
  rfl

/-- A store of the point's 128 support rows reads back as the support block with those rows replaced. -/
theorem read_supp {M : Memref sig .tc .vmem S1x512x8x128 .f32} (h : M.IsWhole) (i : grid0.Coords)
    (a : Vec F S1x512x8x128 .f32) (p : FVec F S1x128x8x128 .f32) :
    M.view.read (Elt F) (M.view.writes (Elt F) (h.unread a)
      [⟨Rect.unit (s := S1x512x8x128) (k0_off6 i) S1x128x8x128.size (k0_off6_inb i), p⟩]) = suppPut i a p := by
  funext y
  rw [View.read_writes_cons_unit _ _ _ _ _ _ (k0_off6_eq i), View.writes_nil, h.read_unread]
  rfl

/-- The point's load of parameter 0 reads that entry of its batch's row. -/
theorem load_param0 {M : Memref sig .tc .smem S4x4 .f32} (h : M.IsWhole) (i : grid0.Coords) (x : Vec F S4x4 .f32)
    (j : S1x1.Idx) :
    View.readAt (Elt F) M.view (Rect.unit (s := S4x4) (k0_off2 i) S1x1.size (k0_off2_inb i)).toLoadRect (h.unread x) j = param x i 0 := by
  rw [h.readAt_unread]
  refine congrArg x (funext fun a => Fin.ext ?_)
  show (k0_off2 i) a + 1 * (j a).val = _
  rw [k0_off2_eq i]
  fin_cases a
  · have : (j 0).val < 1 := (j 0).isLt
    show (i 0).val + 1 * (j 0).val = (i 0).val
    omega
  · have : (j 1).val < 1 := (j 1).isLt
    show 0 + 1 * (j 1).val = 0
    omega

/-- The point's load of parameter 1 reads that entry of its batch's row. -/
theorem load_param1 {M : Memref sig .tc .smem S4x4 .f32} (h : M.IsWhole) (i : grid0.Coords) (x : Vec F S4x4 .f32)
    (j : S1x1.Idx) :
    View.readAt (Elt F) M.view (Rect.unit (s := S4x4) (k0_off3 i) S1x1.size (k0_off3_inb i)).toLoadRect (h.unread x) j = param x i 1 := by
  rw [h.readAt_unread]
  refine congrArg x (funext fun a => Fin.ext ?_)
  show (k0_off3 i) a + 1 * (j a).val = _
  rw [k0_off3_eq i]
  fin_cases a
  · have : (j 0).val < 1 := (j 0).isLt
    show (i 0).val + 1 * (j 0).val = (i 0).val
    omega
  · have : (j 1).val < 1 := (j 1).isLt
    show 1 + 1 * (j 1).val = 1
    omega

/-- The point's load of parameter 2 reads that entry of its batch's row. -/
theorem load_param2 {M : Memref sig .tc .smem S4x4 .f32} (h : M.IsWhole) (i : grid0.Coords) (x : Vec F S4x4 .f32)
    (j : S1x1.Idx) :
    View.readAt (Elt F) M.view (Rect.unit (s := S4x4) (k0_off4 i) S1x1.size (k0_off4_inb i)).toLoadRect (h.unread x) j = param x i 2 := by
  rw [h.readAt_unread]
  refine congrArg x (funext fun a => Fin.ext ?_)
  show (k0_off4 i) a + 1 * (j a).val = _
  rw [k0_off4_eq i]
  fin_cases a
  · have : (j 0).val < 1 := (j 0).isLt
    show (i 0).val + 1 * (j 0).val = (i 0).val
    omega
  · have : (j 1).val < 1 := (j 1).isLt
    show 2 + 1 * (j 1).val = 2
    omega

/-- The point's load of parameter 3 reads that entry of its batch's row. -/
theorem load_param3 {M : Memref sig .tc .smem S4x4 .f32} (h : M.IsWhole) (i : grid0.Coords) (x : Vec F S4x4 .f32)
    (j : S1x1.Idx) :
    View.readAt (Elt F) M.view (Rect.unit (s := S4x4) (k0_off5 i) S1x1.size (k0_off5_inb i)).toLoadRect (h.unread x) j = param x i 3 := by
  rw [h.readAt_unread]
  refine congrArg x (funext fun a => Fin.ext ?_)
  show (k0_off5 i) a + 1 * (j a).val = _
  rw [k0_off5_eq i]
  fin_cases a
  · have : (j 0).val < 1 := (j 0).isLt
    show (i 0).val + 1 * (j 0).val = (i 0).val
    omega
  · have : (j 1).val < 1 := (j 1).isLt
    show 3 + 1 * (j 1).val = 3
    omega

/-- The reshape of the pooled tile to its own shape changes nothing. -/
theorem pay5_eq (p : FVec F S128x512 .f32) : k0_pay5 p = p := by
  funext j
  unfold k0_pay5
  pointwise

end Cert.KernelIdeal.Hand

end
-- ==== Proof.Body.lean ====
/-
  The kernel's body run at each kind of grid point: what every buffer holds when it returns.

  There are four kinds: the first point of all (the 0/1 column matrix is built there), the first tile of a later
  batch, a middle tile, and a batch's last tile (the weights are stored there).
-/
module

public import proofs.«01_k».proof.Proof.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- At the first point of all: the column matrix is built, the total is the tile's sum. -/
theorem runStart (c : Dev nD) (i : grid0.Coords)
    (arg2 : Memref sig .tc .smem S4x4 .f32) (harg2 : arg2.IsWhole) (arg3 : Memref sig .tc .vmem S1x1024x4096 .f32) (harg3 : arg3.IsWhole)
    (arg4 : Memref sig .tc .vmem S1x512x512 .f32) (harg4 : arg4.IsWhole) (arg5 : Memref sig .tc .vmem S1x512x8x128 .f32) (harg5 : arg5.IsWhole)
    (arg6 : Memref sig .tc .vmem S512x512 .f32) (harg6 : arg6.IsWhole) (arg7 : Memref sig .tc .smem S1 .f32) (harg7 : arg7.IsWhole)
    (arg8 : Memref sig .tc .vmem S4096x512 .f32) (harg8 : arg8.IsWhole)
    (hc0 : isStart i) (hc1 : isFirst i) (hc2 : ¬isLater i) (hc3 : ¬isLast i)
    (x0 : Vec F S4x4 .f32) (x1 : Vec F S1x1024x4096 .f32) (y2 : Vec F S1x512x512 .f32) (y3 : Vec F S1x512x8x128 .f32)
    (a : Vec F S512x512 .f32)
    (E : Set ℕ) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ owns (c : Thread nD τ) arg6 fullShare a ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1
            ∗ owns (c : Thread nD τ) arg4 fullShare y2
            ∗ owns (c : Thread nD τ) arg5 fullShare (suppPut i y3 (suppTile i x0))
            ∗ owns (c : Thread nD τ) arg6 fullShare (accPut i a (k0_pay4 x1 (k0_pay3 (F := F))))
            ∗ owns (c : Thread nD τ) arg7 fullShare (cell (k0_pay6 (k0_pay4 x1 (k0_pay3 (F := F))))) ∗ owns (c : Thread nD τ) arg8 fullShare (k0_pay3 (F := F))) -∗ K ⟨⟩))
      ⊢ wp frame (wpE (defs₀ (F := F)) Variants.none c none) E
          (cc0__body i arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%d7, %fs1, -, HS1⟩, ⟨%d8, %fs2, -, HS2⟩, Hk⟩
  obtain rfl := harg2.eq_unread hf0; obtain rfl := harg3.eq_unread hf1
  obtain rfl := harg4.eq_unread hf2; obtain rfl := harg5.eq_unread hf3
  obtain rfl := harg6.eq_unread hfs0
  sl_exec (disch := first | sl_exact hc0 | sl_exact hc1 | sl_exact hc2 | sl_exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; exact hf2
  isplitl [H3]
  · iexists _; isplitr; swap; · iexact H3
    ipureintro; (try delta runStart.sl.r_11); (try delta runStart.sl.r_10); (try delta runStart.sl.r_9); (try delta runStart.sl.r_8); (try delta runStart.sl.r_7); (try delta runStart.sl.r_6); (try delta runStart.sl.r_5); (try delta runStart.sl.r_4); (try delta runStart.sl.r_3); (try delta runStart.sl.r_2); (try delta runStart.sl.v64); (try delta runStart.sl.v63);
    rw [load_param0 harg2, load_param1 harg2, load_param2 harg2, load_param3 harg2]
    exact read_supp harg5 i y3 (suppTile i x0)
  isplitl [HS0]
  · iexists _; isplitr; swap; · iexact HS0
    ipureintro; (try delta runStart.sl.r); (try delta runStart.sl.v37); (try delta runStart.sl.HS2_1);
    rw [View.readAt_full, hf1, View.readCov_full, pay5_eq]
    exact read_acc harg6 i a _
  isplitl [HS1]
  · iexists _; isplitr; swap; · iexact HS1
    ipureintro; refine (View.read_writes_full _ _ _ _ _).trans (funext fun _ => ?_)
    (try delta runStart.sl.r); (try delta runStart.sl.v37); (try delta runStart.sl.HS2_1);
    rw [View.readAt_full, hf1, View.readCov_full]
  iexists _; isplitr; swap; · iexact HS2
  ipureintro; (try delta runStart.sl.HS2_1);
  exact View.read_writes_full _ _ _ _ _

set_option maxHeartbeats 1000000 in
/-- At the first tile of a later batch: the total is the tile's sum. -/
theorem runFirst (c : Dev nD) (i : grid0.Coords)
    (arg2 : Memref sig .tc .smem S4x4 .f32) (harg2 : arg2.IsWhole) (arg3 : Memref sig .tc .vmem S1x1024x4096 .f32) (harg3 : arg3.IsWhole)
    (arg4 : Memref sig .tc .vmem S1x512x512 .f32) (harg4 : arg4.IsWhole) (arg5 : Memref sig .tc .vmem S1x512x8x128 .f32) (harg5 : arg5.IsWhole)
    (arg6 : Memref sig .tc .vmem S512x512 .f32) (harg6 : arg6.IsWhole) (arg7 : Memref sig .tc .smem S1 .f32) (harg7 : arg7.IsWhole)
    (arg8 : Memref sig .tc .vmem S4096x512 .f32) (harg8 : arg8.IsWhole)
    (hc0 : ¬isStart i) (hc1 : isFirst i) (hc2 : ¬isLater i) (hc3 : ¬isLast i)
    (x0 : Vec F S4x4 .f32) (x1 : Vec F S1x1024x4096 .f32) (y2 : Vec F S1x512x512 .f32) (y3 : Vec F S1x512x8x128 .f32)
    (a : Vec F S512x512 .f32) (b : Vec F S4096x512 .f32)
    (E : Set ℕ) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ owns (c : Thread nD τ) arg6 fullShare a ∗ (∃ d, owns (c : Thread nD τ) arg7 fullShare d) ∗ owns (c : Thread nD τ) arg8 fullShare b
        ∗ (iprop(owns (c : Thread nD τ) arg2 fullShare x0 ∗ owns (c : Thread nD τ) arg3 fullShare x1
            ∗ owns (c : Thread nD τ) arg4 fullShare y2
            ∗ owns (c : Thread nD τ) arg5 fullShare (suppPut i y3 (suppTile i x0))
            ∗ owns (c : Thread nD τ) arg6 fullShare (accPut i a (k0_pay4 x1 b))
            ∗ owns (c : Thread nD τ) arg7 fullShare (cell (k0_pay6 (k0_pay4 x1 b))) ∗ owns (c : Thread nD τ) arg8 fullShare b) -∗ K ⟨⟩))
      ⊢ wp frame (wpE (defs₀ (F := F)) Variants.none c none) E
          (cc0__body i arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%d7, %fs1, -, HS1⟩, ⟨%fs2, %hfs2, HS2⟩, Hk⟩
  obtain rfl := harg2.eq_unread hf0; obtain rfl := harg3.eq_unread hf1
  obtain rfl := harg4.eq_unread hf2; obtain rfl := harg5.eq_unread hf3
  obtain rfl := harg6.eq_unread hfs0; obtain rfl := harg8.eq_unread hfs2
  sl_exec (disch := first | sl_exact hc0 | sl_exact hc1 | sl_exact hc2 | sl_exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; exact hf2
  isplitl [H3]
  · iexists _; isplitr; swap; · iexact H3
    ipureintro; (try delta runFirst.sl.r_11); (try delta runFirst.sl.r_10); (try delta runFirst.sl.r_9); (try delta runFirst.sl.r_8); (try delta runFirst.sl.r_7); (try delta runFirst.sl.r_6); (try delta runFirst.sl.r_5); (try delta runFirst.sl.r_4); (try delta runFirst.sl.r_3); (try delta runFirst.sl.r_2); (try delta runFirst.sl.v64); (try delta runFirst.sl.v63);
    rw [load_param0 harg2, load_param1 harg2, load_param2 harg2, load_param3 harg2]
    exact read_supp harg5 i y3 (suppTile i x0)
  isplitl [HS0]
  · iexists _; isplitr; swap; · iexact HS0
    ipureintro; (try delta runFirst.sl.r);
    rw [View.readAt_full, hf1, View.readAt_full, hfs2, pay5_eq]
    exact read_acc harg6 i a _
  isplitl [HS1]
  · iexists _; isplitr; swap; · iexact HS1
    ipureintro; refine (View.read_writes_full _ _ _ _ _).trans (funext fun _ => ?_)
    (try delta runFirst.sl.r);
    rw [View.readAt_full, hf1, View.readAt_full, hfs2]
  iexists _; isplitr; swap; · iexact HS2
  ipureintro; exact hfs2

set_option maxHeartbeats 1000000 in
/-- At a middle tile: the total grows by the tile's sum. -/
theorem runMiddle (c : Dev nD) (i : grid0.Coords)
    (arg2 : Memref sig .tc .smem S4x4 .f32) (harg2 : arg2.IsWhole) (arg3 : Memref sig .tc .vmem S1x1024x4096 .f32) (harg3 : arg3.IsWhole)
    (arg4 : Memref sig .tc .vmem S1x512x512 .f32) (harg4 : arg4.IsWhole) (arg5 : Memref sig .tc .vmem S1x512x8x128 .f32) (harg5 : arg5.IsWhole)
    (arg6 : Memref sig .tc .vmem S512x512 .f32) (harg6 : arg6.IsWhole) (arg7 : Memref sig .tc .smem S1 .f32) (harg7 : arg7.IsWhole)
    (arg8 : Memref sig .tc .vmem S4096x512 .f32) (harg8 : arg8.IsWhole)
    (hc0 : ¬isStart i) (hc1 : ¬isFirst i) (hc2 : isLater i) (hc3 : ¬isLast i)
    (x0 : Vec F S4x4 .f32) (x1 : Vec F S1x1024x4096 .f32) (y2 : Vec F S1x512x512 .f32) (y3 : Vec F S1x512x8x128 .f32)
    (a : Vec F S512x512 .f32) (s : F .f32) (b : Vec F S4096x512 .f32)
    (E : Set ℕ) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ owns (c : Thread nD τ) arg6 fullShare a ∗ owns (c : Thread nD τ) arg7 fullShare (cell s) ∗ owns (c : Thread nD τ) arg8 fullShare b
        ∗ (iprop(owns (c : Thread nD τ) arg2 fullShare x0 ∗ owns (c : Thread nD τ) arg3 fullShare x1
            ∗ owns (c : Thread nD τ) arg4 fullShare y2
            ∗ owns (c : Thread nD τ) arg5 fullShare (suppPut i y3 (suppTile i x0))
            ∗ owns (c : Thread nD τ) arg6 fullShare (accPut i a (k0_pay4 x1 b))
            ∗ owns (c : Thread nD τ) arg7 fullShare (cell (k0_pay7 (k0_pay4 x1 b) s)) ∗ owns (c : Thread nD τ) arg8 fullShare b) -∗ K ⟨⟩))
      ⊢ wp frame (wpE (defs₀ (F := F)) Variants.none c none) E
          (cc0__body i arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg4.eq_unread hf2; obtain rfl := harg5.eq_unread hf3
  obtain rfl := harg6.eq_unread hfs0; obtain rfl := harg7.eq_unread hfs1; obtain rfl := harg8.eq_unread hfs2
  sl_exec (disch := first | sl_exact hc0 | sl_exact hc1 | sl_exact hc2 | sl_exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; exact hf2
  isplitl [H3]
  · iexists _; isplitr; swap; · iexact H3
    ipureintro; (try delta runMiddle.sl.r_11); (try delta runMiddle.sl.r_10); (try delta runMiddle.sl.r_9); (try delta runMiddle.sl.r_8); (try delta runMiddle.sl.r_7); (try delta runMiddle.sl.r_6); (try delta runMiddle.sl.r_5); (try delta runMiddle.sl.r_4); (try delta runMiddle.sl.r_3); (try delta runMiddle.sl.r_2); (try delta runMiddle.sl.v64); (try delta runMiddle.sl.v63);
    rw [load_param0 harg2, load_param1 harg2, load_param2 harg2, load_param3 harg2]
    exact read_supp harg5 i y3 (suppTile i x0)
  isplitl [HS0]
  · iexists _; isplitr; swap; · iexact HS0
    ipureintro; (try delta runMiddle.sl.r);
    rw [View.readAt_full, hf1, View.readAt_full, hfs2, pay5_eq]
    exact read_acc harg6 i a _
  isplitl [HS1]
  · iexists _; isplitr; swap; · iexact HS1
    ipureintro; refine (View.read_writes_full _ _ _ _ _).trans (funext fun _ => ?_)
    (try delta runMiddle.sl.r_1); (try delta runMiddle.sl.r);
    rw [View.readAt_full, hf1, View.readAt_full, hfs2, View.readAt_full, hfs1]
  iexists _; isplitr; swap; · iexact HS2
  ipureintro; exact hfs2

set_option maxHeartbeats 1000000 in
/-- At a batch's last tile: as at a middle one, and the scaled accumulator is stored. -/
theorem runLast (c : Dev nD) (i : grid0.Coords)
    (arg2 : Memref sig .tc .smem S4x4 .f32) (harg2 : arg2.IsWhole) (arg3 : Memref sig .tc .vmem S1x1024x4096 .f32) (harg3 : arg3.IsWhole)
    (arg4 : Memref sig .tc .vmem S1x512x512 .f32) (harg4 : arg4.IsWhole) (arg5 : Memref sig .tc .vmem S1x512x8x128 .f32) (harg5 : arg5.IsWhole)
    (arg6 : Memref sig .tc .vmem S512x512 .f32) (harg6 : arg6.IsWhole) (arg7 : Memref sig .tc .smem S1 .f32) (harg7 : arg7.IsWhole)
    (arg8 : Memref sig .tc .vmem S4096x512 .f32) (harg8 : arg8.IsWhole)
    (hc0 : ¬isStart i) (hc1 : ¬isFirst i) (hc2 : isLater i) (hc3 : isLast i)
    (x0 : Vec F S4x4 .f32) (x1 : Vec F S1x1024x4096 .f32) (y2 : Vec F S1x512x512 .f32) (y3 : Vec F S1x512x8x128 .f32)
    (a : Vec F S512x512 .f32) (s : F .f32) (b : Vec F S4096x512 .f32)
    (E : Set ℕ) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ owns (c : Thread nD τ) arg6 fullShare a ∗ owns (c : Thread nD τ) arg7 fullShare (cell s) ∗ owns (c : Thread nD τ) arg8 fullShare b
        ∗ (iprop(owns (c : Thread nD τ) arg2 fullShare x0 ∗ owns (c : Thread nD τ) arg3 fullShare x1
            ∗ owns (c : Thread nD τ) arg4 fullShare (k0_pay2 (k0_pay7 (k0_pay4 x1 b) s) (accPut i a (k0_pay4 x1 b)))
            ∗ owns (c : Thread nD τ) arg5 fullShare (suppPut i y3 (suppTile i x0))
            ∗ owns (c : Thread nD τ) arg6 fullShare (accPut i a (k0_pay4 x1 b))
            ∗ owns (c : Thread nD τ) arg7 fullShare (cell (k0_pay7 (k0_pay4 x1 b) s)) ∗ owns (c : Thread nD τ) arg8 fullShare b) -∗ K ⟨⟩))
      ⊢ wp frame (wpE (defs₀ (F := F)) Variants.none c none) E
          (cc0__body i arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg2.eq_unread hf0; obtain rfl := harg3.eq_unread hf1
  obtain rfl := harg4.eq_unread hf2; obtain rfl := harg5.eq_unread hf3
  obtain rfl := harg6.eq_unread hfs0; obtain rfl := harg7.eq_unread hfs1; obtain rfl := harg8.eq_unread hfs2
  sl_exec (disch := first | sl_exact hc0 | sl_exact hc1 | sl_exact hc2 | sl_exact hc3)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro; refine (View.read_writes_full _ _ _ _ _).trans ?_
    (try delta runLast.sl.r_12); (try delta runLast.sl.v181); (try delta runLast.sl.HS0_1); (try delta runLast.sl.r_1); (try delta runLast.sl.r);
    rw [View.readAt_full, hf1, View.readAt_full, hfs2, View.readAt_full, View.readAt_full, pay5_eq, read_acc harg6]
    rw [hfs1]
  isplitl [H3]
  · iexists _; isplitr; swap; · iexact H3
    ipureintro; (try delta runLast.sl.r_11); (try delta runLast.sl.r_10); (try delta runLast.sl.r_9); (try delta runLast.sl.r_8); (try delta runLast.sl.r_7); (try delta runLast.sl.r_6); (try delta runLast.sl.r_5); (try delta runLast.sl.r_4); (try delta runLast.sl.r_3); (try delta runLast.sl.r_2); (try delta runLast.sl.v64); (try delta runLast.sl.v63);
    rw [load_param0 harg2, load_param1 harg2, load_param2 harg2, load_param3 harg2]
    exact read_supp harg5 i y3 (suppTile i x0)
  isplitl [HS0]
  · iexists _; isplitr; swap; · iexact HS0
    ipureintro; (try delta runLast.sl.HS0_1); (try delta runLast.sl.r);
    rw [View.readAt_full, hf1, View.readAt_full, hfs2, pay5_eq]
    exact read_acc harg6 i a _
  isplitl [HS1]
  · iexists _; isplitr; swap; · iexact HS1
    ipureintro; refine (View.read_writes_full _ _ _ _ _).trans (funext fun _ => ?_)
    (try delta runLast.sl.r_1); (try delta runLast.sl.r);
    rw [View.readAt_full, hf1, View.readAt_full, hfs2, View.readAt_full, hfs1]
  iexists _; isplitr; swap; · iexact HS2
  ipureintro; exact hfs2

end Cert.KernelIdeal.Hand

end
-- ==== Proof.Launch.lean ====
/-
  The launch: from what the body does at each grid point to what the two output arrays hold, and what the host lines
  after the grid make of them.

  The body leaves an output block settled only at the point that writes it back; before that the block is settled in
  part, and the rest holds whatever was there. So the proof data say of an output block only what is certain at each
  point (a relation), and name the whole block at the points that write it back. Below: such data determine the arrays,
  and the run ends with the arrays at those contents and the host's results computed from them.
-/
module

public import proofs.«01_k».proof.Proof.Points
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

/-- Data over this grid whose marked windows are held to a relation. -/
abbrev Held {c : Dev nD} (dat : Dat τ (Elt F) Unit ℕ (UR sig nD τ) ℕ cfg0 c) (fgt : Fin cfg0.W → Bool)
    (Rl : (w : Fin cfg0.W) → Fin cfg0.N → ((cfg0.win w).block.Idx → Elt F (cfg0.win w).elt) → Prop) :
    RDat τ (Elt F) Unit ℕ (UR sig nD τ) ℕ cfg0 c := dat.toRRel fgt Rl

/-- If, at every point that writes a marked window's block back, the relation leaves one possible block, then a marked
    window's array has one possible contents: the one the exact data name. -/
theorem held_marked {c : Dev nD} (dat : Dat τ (Elt F) Unit ℕ (UR sig nD τ) ℕ cfg0 c) (fgt : Fin cfg0.W → Bool)
    (Rl : (w : Fin cfg0.W) → Fin cfg0.N → ((cfg0.win w).block.Idx → Elt F (cfg0.win w).elt) → Prop)
    (w : Fin cfg0.W) (hw : fgt w = true)
    (hpin : ∀ t X, (cfg0.win w).flush t = true → Rl w t X → X = dat.after w t) :
    ∀ (n : Nat) (G), (Held dat fgt Rl).ArrAt w n G → G = dat.arrAt w n
  | 0, G => fun h => h
  | n + 1, G => fun h => by
    have ih := held_marked dat fgt Rl w hw hpin n
    simp only [RDat.ArrAt] at h
    simp only [Dat.arrAt]
    by_cases hn : n < cfg0.N
    · rw [dif_pos hn] at h ⊢
      by_cases hf : (cfg0.win w).flush ⟨n, hn⟩ = true
      · rw [if_pos hf] at h ⊢
        obtain ⟨G₀, X, hG₀, hX, rfl⟩ := h
        rw [ih G₀ hG₀, hpin _ _ hf (dat.toRRel_leaves hw hX)]
      · rw [if_neg hf] at h ⊢; exact ih G h
    · rw [dif_neg hn] at h ⊢; exact ih G h

/-- The same of every window: one that is not marked is as the exact data say. -/
theorem held_arrAt {c : Dev nD} (dat : Dat τ (Elt F) Unit ℕ (UR sig nD τ) ℕ cfg0 c) (fgt : Fin cfg0.W → Bool)
    (Rl : (w : Fin cfg0.W) → Fin cfg0.N → ((cfg0.win w).block.Idx → Elt F (cfg0.win w).elt) → Prop)
    (hpin : ∀ w, fgt w = true → ∀ t X, (cfg0.win w).flush t = true → Rl w t X → X = dat.after w t)
    (w : Fin cfg0.W) (n : Nat) (G) (h : (Held dat fgt Rl).ArrAt w n G) : G = dat.arrAt w n := by
  cases hw : fgt w
  · exact dat.toR_arrAt w n G ((dat.toR.override_arrAt (by simp only [hw]) n G).mp h)
  · exact held_marked dat fgt Rl w hw (hpin w hw) n G h

/-- And the exact contents are among the possible ones, if what the exact data name at such a point may be left there. -/
theorem held_arraysAt {c : Dev nD} (dat : Dat τ (Elt F) Unit ℕ (UR sig nD τ) ℕ cfg0 c) (fgt : Fin cfg0.W → Bool)
    (Rl : (w : Fin cfg0.W) → Fin cfg0.N → ((cfg0.win w).block.Idx → Elt F (cfg0.win w).elt) → Prop)
    (hpin : ∀ w, fgt w = true → ∀ t X, (cfg0.win w).flush t = true → Rl w t X → X = dat.after w t) (n : Nat) :
    (Held dat fgt Rl).arraysAt n ⊢ (iprop(dat.arrays (dat.arrAt · n) ∗ ⌜∀ w, (Held dat fgt Rl).ArrAt w n (dat.arrAt w n)⌝) : sProp 𝕄) := by
  have h1 : (Held dat fgt Rl).arraysAt n ⊢ (bigSep Finset.univ fun w : Fin cfg0.W =>
      iprop(⌜(Held dat fgt Rl).ArrAt w n (dat.arrAt w n)⌝
        ∗ (cfg0.win w).arr.view.loc (c.tc : Thread nD τ) ↦[(cfg0.win w).arr.view.set]{dat.share w} dat.arrAt w n) : sProp 𝕄) := by
    unfold RDat.arraysAt
    refine BI.bigSep_mono fun w _ => ?_
    show (iprop(∃ G, ⌜(Held dat fgt Rl).ArrAt w n G⌝
        ∗ (cfg0.win w).arr.view.loc (c.tc : Thread nD τ) ↦[(cfg0.win w).arr.view.set]{dat.share w} G) : sProp 𝕄) ⊢ _
    iintro ⟨%G, %hG, H⟩
    have e := held_arrAt dat fgt Rl hpin w n G hG
    subst e
    isplitr
    · ipureintro; exact hG
    · iexact H
  refine h1.trans ?_
  iintro H
  ihave H' := (BI.bigSep_pure_sep Finset.univ (fun w => (Held dat fgt Rl).ArrAt w n (dat.arrAt w n))
    (fun w => (cfg0.win w).arr.view.loc (c.tc : Thread nD τ) ↦[(cfg0.win w).arr.view.set]{dat.share w} dat.arrAt w n)) $$ H
  icases H' with ⟨%hA, H⟩
  isplitl [H]
  · unfold Dat.arrays; iexact H
  · ipureintro; exact fun w => hA w (Finset.mem_univ w)

/-- Arrays at possible contents are arrays as the region leaves them. -/
theorem arraysAt_of {c : Dev nD} (dat : Dat τ (Elt F) Unit ℕ (UR sig nD τ) ℕ cfg0 c) (fgt : Fin cfg0.W → Bool)
    (Rl : (w : Fin cfg0.W) → Fin cfg0.N → ((cfg0.win w).block.Idx → Elt F (cfg0.win w).elt) → Prop) (n : Nat)
    (h : ∀ w, (Held dat fgt Rl).ArrAt w n (dat.arrAt w n)) :
    (dat.arrays (dat.arrAt · n) : sProp 𝕄) ⊢ (Held dat fgt Rl).arraysAt n := by
  unfold RDat.arraysAt Dat.arrays
  refine BI.bigSep_mono fun w _ => ?_
  show ((cfg0.win w).arr.view.loc (c.tc : Thread nD τ) ↦[(cfg0.win w).arr.view.set]{dat.share w} dat.arrAt w n : sProp 𝕄)
    ⊢ iprop(∃ G, ⌜(Held dat fgt Rl).ArrAt w n G⌝
        ∗ (cfg0.win w).arr.view.loc (c.tc : Thread nD τ) ↦[(cfg0.win w).arr.view.set]{dat.share w} G)
  iintro H
  iexists dat.arrAt w n
  isplitr
  · ipureintro; exact h w
  · iexact H

variable (m : (ℓ : Loc nD τ sig) → Buf (Elt F) ℓ) (ρ : Dev nD → PrngReg)

set_option backward.isDefEq.respectTransparency.types false in
set_option maxHeartbeats 1600000 in
/-- The run: every buffer ends as the exact data and the host lines after the grid say, and every semaphore at zero. -/
theorem launch_held (dats : (p : Fin 1) → (c : Dev nD) → Dat τ (Elt F) Unit ℕ (UR sig nD τ) ℕ (cfgs p) c)
    (fgt : Fin cfg0.W → Bool)
    (Rl : Dev nD → (w : Fin cfg0.W) → Fin cfg0.N → ((cfg0.win w).block.Idx → Elt F (cfg0.win w).elt) → Prop)
    (hpin : ∀ c w, fgt w = true → ∀ t X, (cfg0.win w).flush t = true → Rl c w t X → X = (dats 0 c).after w t)
    (hbody : ∀ c, Pipeline.BodyObligationRel (dats 0 c) defs₀ Variants.none () Set.univ fgt (Rl c))
    (hshare : ∀ c w, (dats 0 c).share w = fullShare) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (fun r => Pipeline.FramePost cfgs dats 0 (Pipeline.afterTail₀ cfgs dats 0 (V0 m) [hostOps1]) r ∧ r.2.sem = fun _ => 0) := by
  classical
  let pcs : Fin 1 → Pipeline.PCfg sig Λ₀ (Elt F) := fun q => (cfgs q).toPCfg
  let a : (q : Fin 1) → (pcs q).Adm := fun q => (cfgs q).toPCfg_adm
  have kit := (Pipeline.LaunchFacts.toP (Val := Elt F) launch0).to₀
  let rd : (c : Dev nD) → RDat τ (Elt F) Unit ℕ (UR sig nD τ) ℕ (Pipeline.pin pcs a 0) c := fun c => Held (dats 0 c) fgt (Rl c)
  have hself : ∀ c, RDat.familyOf pcs a 0 rd 0 c = Held (dats 0 c) fgt (Rl c) := fun c => RDat.familyOf_self pcs a 0 rd c
  have hq : ∀ c w, (spec0 w).isOut = false → (dats 0 c).q w = Pipeline.shareOf spec0 w :=
    fun c w hw => (dats 0 c).q_eq_shareOf_of_share_full launch0.win.arr_inj (hshare c) w hw
  exact RDat.θ_run_region_pf_tail_quiescent pcs a (RDat.familyOf pcs a 0 rd) () (kit.cellOf_inj a) 0 kit.win
    (Pipeline.OwnSemFacts.none spec0) kit.pre emb₁ defs₀ Variants.none m ρ main
    (fun _ => Pipeline.chain ([hostOps1].map StableHlo.seq))
    (fun c => by rw [hself]; exact (hbody c).toRRel)
    kit.block_pos kit.arr_whole kit.stage_whole (fun c t => by rw [hself]; exact howed c t)
    (G := fun _ => iprop(emp))
    (u₀ := initOf (Pipeline.cells (Pipeline.pin pcs a) (kit.cellOf_inj a)) (Pipeline.launchToks (Pipeline.pin pcs a) (kit.cellOf_inj a)))
    (hu₀ := by
      iintro Hu; imodintro
      isplitl [Hu]
      · iapply (show (ownU _ : sProp 𝕄) ⊢ BI.own (emb₁ (initOf (Pipeline.cells (Pipeline.pin pcs a) (kit.cellOf_inj a))
          (Pipeline.launchToks (Pipeline.pin pcs a) (kit.cellOf_inj a)))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [hself]; exact (dats 0 c).toR.arrays_split_shared kit.sharedIn kit.arr_whole (hq c) (V m c) _ (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) (pcs 0).pre spec0 c (V m c))
    (Z' := fun c => Pipeline.unscopedRestP (Ix := Unit) (Name := ℕ) (U := UR sig nD τ) (Lvl := ℕ) (pcs 0).pre spec0 c
      (Pipeline.afterTail₀ cfgs dats 0 (V0 m) [hostOps1] c))
    (hX := fun c => by
      iintro ⟨HU, -, -, Hp, -⟩; imodintro
      isplitl [Hp]; · iexists _; iexact Hp
      iexact HU)
    (hin := fun c => by
      rw [hself]
      exact (show _ ⊢ Pipeline.ΦA spec0 c by
        unfold Pipeline.ΦA
        iintro ⟨Hp, -, Hr⟩
        isplitl [Hr] <;> iassumption).trans (hin c))
    (hout := fun c => by
      rw [hself]
      exact (hout c).trans (by
        rw [Pipeline.ownSems0_none]
        unfold Pipeline.ΦA
        iintro ⟨Hr, Hp⟩
        isplitl [Hp]; · iexact Hp
        isplitr; · iempintro
        iexact Hr))
    (htail := fun c Q' => by
      have hB : (dats 0 c).arrays (fun w => (dats 0 c).arrAt w cfg0.N)
          = Pipeline.arrBufs spec0 c (fun b => Pipeline.withArrays spec0 c (V0 m c) (fun w => (dats 0 c).arrAt w cfg0.N) (Proc.devRef .tc b)) :=
        ((dats 0 c).arrBufs_eq_arrays kit.sharedIn kit.arr_whole (hq c) _ _ fun w =>
          (Pipeline.withArrays_arr_shared spec0 c (V0 m c) _ ((dats 0 c).arrAt_sharedIn kit.sharedIn (V0 m c) (hA c) cfg0.N) w).symm).symm
      rw [hself]
      iintro ⟨Hk, Hb, Ha, HZ⟩
      ihave Ha' := (held_arraysAt (dats 0 c) fgt (Rl c) (hpin c) cfg0.N) $$ Ha
      icases Ha' with ⟨Ha, %hA'⟩
      iapply (Pipeline.tail_seqs_bufs_b pcs defs₀ Variants.none (pcs 0).pre spec0 c (V0 m c)
        (fun w => (dats 0 c).arrAt w cfg0.N) [hostOps1] sfx_sub sfx_fresh sfx_keeps Q')
      isplitl [Hk]
      · iintro ⟨Hb2, Ha2, Hu⟩
        iapply Hk
        isplitl [Hb2]; · iexact Hb2
        isplitl [Ha2]
        · iapply (arraysAt_of (dats 0 c) fgt (Rl c) cfg0.N hA')
          iapply (Entails.of_eq hB.symm); iexact Ha2
        iexact Hu
      · isplitl [Hb]; · iexact Hb
        isplitl [Ha]; · iapply (Entails.of_eq hB); iexact Ha
        iexact HZ)
    (QY := fun c s => ∀ b ∈ Pipeline.restRefsP sig (pcs 0).pre spec0,
      s.mem ((c.tc : Thread nD τ).loc b) = Pipeline.afterTail₀ cfgs dats 0 (V0 m) [hostOps1] c b)
    (hY := fun c s' => by
      iintro ⟨-, HU, HSI⟩
      unfold Pipeline.unscopedRestP
      imodintro
      iapply (pointsTo_read_all (Pipeline.restRefsP sig (pcs 0).pre spec0) (fun b => (c.tc : Thread nD τ).loc b)
        (Pipeline.afterTail₀ cfgs dats 0 (V0 m) [hostOps1] c) s')
      isplitl [HU] <;> iassumption)
    (hQ := fun s h hz => ⟨fun c => ⟨fun w => held_arrAt (dats 0 c) fgt (Rl c) (hpin c) w _ _ (by
        have := (h c).1 w
        rw [hself] at this
        exact this),
      Pipeline.rest_of_restP (pcs 0).pre spec0 (a 0).1 c (Pipeline.afterTail₀ cfgs dats 0 (V0 m) [hostOps1] c) s
        (fun k => k.elim0) (h c).2.1 (h c).2.2⟩, hz⟩)

end Cert.KernelIdeal.Hand

end
-- ==== Proof.Data.lean ====
/-
  What the scratch buffers and the output blocks hold along the grid, and that the body keeps it so.

  Within a batch the accumulator and the support block fill up tile by tile: after tile `t` their first 128 · (t + 1)
  rows are settled. At the batch's last tile both are settled whole, the running total is the batch's, and the scaled
  accumulator is stored.
-/
module

public import proofs.«01_k».proof.Proof.Body
public import proofs.«01_k».proof.Proof.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ)

/-- The grid point of a number (numbers wrap at 16; only those below are used). -/
def pt (n : ℕ) : Fin cfg0.N := ⟨n % 16, lt_of_lt_of_eq (Nat.mod_lt _ (by norm_num)) N_0.symm⟩

theorem pt_val (t : Fin cfg0.N) : pt t.val = t := Fin.ext (Nat.mod_eq_of_lt (pt_lt t))

theorem pt_num {n : ℕ} (h : n < 16) : (pt n).val = n := Nat.mod_eq_of_lt h

/-- The pooled rows a point computes. -/
def pooled (c : Dev nD) (t : Fin cfg0.N) : FVec F S128x512 .f32 := k0_pay4 (iblk m c 1 t) (k0_pay3 (F := F))

/-- The batch's running total after a point. -/
def totAt (c : Dev nD) : ℕ → F .f32
  | 0 => k0_pay6 (pooled m c (pt 0))
  | n + 1 => if (n + 1) % 4 = 0 then k0_pay6 (pooled m c (pt (n + 1))) else k0_pay7 (pooled m c (pt (n + 1))) (totAt c n)

theorem totAt_first (c : Dev nD) (n : ℕ) (h : n % 4 = 0) : totAt m c n = k0_pay6 (pooled m c (pt n)) := by
  cases n with
  | zero => rfl
  | succ n => simp only [totAt]; rw [if_pos h]

theorem totAt_later (c : Dev nD) (n : ℕ) (h : 1 ≤ n % 4) :
    totAt m c n = k0_pay7 (pooled m c (pt n)) (totAt m c (n - 1)) := by
  cases n with
  | zero => omega
  | succ n => simp only [totAt]; rw [if_neg (by omega)]; rfl

/-- The pooled rows of a whole batch. -/
def accArr (c : Dev nD) (b : ℕ) : Vec F S512x512 .f32 := fun y =>
  pooled m c (pt (4 * b + (y 0).val / 128)) (ix2 (⟨(y 0).val % 128, Nat.mod_lt _ (by norm_num)⟩ : Fin 128) (y 1 : Fin 512))

/-- The support grid of a whole batch. -/
def suppArr (c : Dev nD) (b : ℕ) : Vec F S1x512x8x128 .f32 := fun y =>
  suppTile (grid0.coords (pt (4 * b + (y 1).val / 128))) (iblk m c 0 (pt (4 * b + (y 1).val / 128)))
    (ix4 (0 : Fin 1) (⟨(y 1).val % 128, Nat.mod_lt _ (by norm_num)⟩ : Fin 128) (y 2 : Fin 8) (y 3 : Fin 128))

/-- The accumulator's rows settled after point `n`. -/
def AccGood (c : Dev nD) (n : ℕ) (a : Vec F S512x512 .f32) : Prop :=
  ∀ y, (y 0).val < (n % 4 + 1) * 128 → a y = accArr m c (n / 4) y

/-- The support block's rows settled after point `n`. -/
def SuppGood (c : Dev nD) (n : ℕ) (a : Vec F S1x512x8x128 .f32) : Prop :=
  ∀ y, (y 1).val < (n % 4 + 1) * 128 → a y = suppArr m c (n / 4) y

/-- Storing a point's rows settles them. -/
theorem accGood_put (c : Dev nD) (t : Fin cfg0.N) (a : Vec F S512x512 .f32)
    (h : 1 ≤ t.val % 4 → AccGood m c (t.val - 1) a) :
    AccGood m c t.val (accPut (grid0.coords t) a (pooled m c t)) := by
  intro y hy
  have e1 := coord1 t
  have ht := pt_lt t
  have h1 : (y 1).val < 512 := (y 1).isLt
  unfold accPut
  by_cases hin : 128 * (t.val % 4) ≤ (y 0).val
  · have hr : (y 0).val / 128 = t.val % 4 := by omega
    have hp : pt (4 * (t.val / 4) + (y 0).val / 128) = t := by
      rw [hr, show 4 * (t.val / 4) + t.val % 4 = t.val by omega, pt_val]
    rw [dif_pos (by
      intro k
      fin_cases k
      · show 128 * (grid0.coords t 1).val ≤ (y 0).val ∧ (y 0).val < 128 * (grid0.coords t 1).val + 128
        rw [e1]; omega
      · show 0 ≤ (y 1).val ∧ (y 1).val < 0 + 512
        omega)]
    unfold accArr
    rw [hp]
    refine congrArg (pooled m c t) (funext fun k => Fin.ext ?_)
    fin_cases k
    · show (y 0).val - 128 * (grid0.coords t 1).val = (y 0).val % 128
      rw [e1]; omega
    · show (y 1).val - 0 = (y 1).val
      omega
  · rw [dif_neg (fun hk => by
      have := (hk 0).1
      have : 128 * (grid0.coords t 1).val ≤ (y 0).val := this
      rw [e1] at this; omega)]
    have := h (by omega) y (by omega)
    rw [this, show (t.val - 1) / 4 = t.val / 4 by omega]

theorem suppGood_put (c : Dev nD) (t : Fin cfg0.N) (a : Vec F S1x512x8x128 .f32)
    (h : 1 ≤ t.val % 4 → SuppGood m c (t.val - 1) a) :
    SuppGood m c t.val (suppPut (grid0.coords t) a (suppTile (grid0.coords t) (iblk m c 0 t))) := by
  intro y hy
  have e1 := coord1 t
  have ht := pt_lt t
  have h0 : (y 0).val < 1 := (y 0).isLt
  have h2 : (y 2).val < 8 := (y 2).isLt
  have h3 : (y 3).val < 128 := (y 3).isLt
  unfold suppPut
  by_cases hin : 128 * (t.val % 4) ≤ (y 1).val
  · have hr : (y 1).val / 128 = t.val % 4 := by omega
    have hp : pt (4 * (t.val / 4) + (y 1).val / 128) = t := by
      rw [hr, show 4 * (t.val / 4) + t.val % 4 = t.val by omega, pt_val]
    rw [dif_pos (by
      intro k
      fin_cases k
      · show 0 ≤ (y 0).val ∧ (y 0).val < 0 + 1
        omega
      · show 128 * (grid0.coords t 1).val ≤ (y 1).val ∧ (y 1).val < 128 * (grid0.coords t 1).val + 128
        rw [e1]; omega
      · show 0 ≤ (y 2).val ∧ (y 2).val < 0 + 8
        omega
      · show 0 ≤ (y 3).val ∧ (y 3).val < 0 + 128
        omega)]
    unfold suppArr
    rw [hp]
    refine congrArg (suppTile (grid0.coords t) (iblk m c 0 t)) (funext fun k => Fin.ext ?_)
    fin_cases k
    · show (y 0).val - 0 = 0
      omega
    · show (y 1).val - 128 * (grid0.coords t 1).val = (y 1).val % 128
      rw [e1]; omega
    · show (y 2).val - 0 = (y 2).val
      omega
    · show (y 3).val - 0 = (y 3).val
      omega
  · rw [dif_neg (fun hk => by
      have := (hk 1).1
      have : 128 * (grid0.coords t 1).val ≤ (y 1).val := this
      rw [e1] at this; omega)]
    have := h (by omega) y (by omega)
    rw [this, show (t.val - 1) / 4 = t.val / 4 by omega]

/-- After a batch's last tile the accumulator is settled whole, -/
theorem accGood_last (c : Dev nD) (n : ℕ) (h : n % 4 = 3) (a : Vec F S512x512 .f32) (ha : AccGood m c n a) :
    a = accArr m c (n / 4) :=
  funext fun y => ha y (by have : (y 0).val < 512 := (y 0).isLt; omega)

/-- and so is the support block. -/
theorem suppGood_last (c : Dev nD) (n : ℕ) (h : n % 4 = 3) (a : Vec F S1x512x8x128 .f32) (ha : SuppGood m c n a) :
    a = suppArr m c (n / 4) :=
  funext fun y => ha y (by have : (y 1).val < 512 := (y 1).isLt; omega)

/-- The weights block a batch's last point stores. -/
def wArr (c : Dev nD) (n : ℕ) : Vec F S1x512x512 .f32 := k0_pay2 (totAt m c n) (accArr m c (n / 4))

/-- What holds between points: before the first, the scratch at anything; after point `n`, the accumulator with its rows
    settled, the column matrix, the running total. -/
def Inv (c : Dev nD) : ℕ → sProp 𝕄
  | 0 => Pipeline.ΦA spec0 c
  | n + 1 => iprop(iprop((∃ a, ⌜AccGood m c n a⌝ ∗ owns (c : Thread nD τ) accM fullShare a)
      ∗ owns (c : Thread nD τ) matM fullShare (k0_pay3 (F := F)) ∗ owns (c : Thread nD τ) totM fullShare (cell (totAt m c n)))
      ∗ (∃ r, prngReg c r))

theorem Inv_succ (c : Dev nD) (n : ℕ) : Inv m c (n + 1) = iprop(iprop((∃ a, ⌜AccGood m c n a⌝ ∗ owns (c : Thread nD τ) accM fullShare a)
      ∗ owns (c : Thread nD τ) matM fullShare (k0_pay3 (F := F)) ∗ owns (c : Thread nD τ) totM fullShare (cell (totAt m c n)))
      ∗ (∃ r, prngReg c r)) := rfl

theorem Inv_pos (c : Dev nD) (n : ℕ) (h : n ≠ 0) : Inv m c n = iprop(iprop((∃ a, ⌜AccGood m c (n - 1) a⌝ ∗ owns (c : Thread nD τ) accM fullShare a)
      ∗ owns (c : Thread nD τ) matM fullShare (k0_pay3 (F := F)) ∗ owns (c : Thread nD τ) totM fullShare (cell (totAt m c (n - 1))))
      ∗ (∃ r, prngReg c r)) := by
  cases n with
  | zero => exact absurd rfl h
  | succ n => rfl

/-- The two outputs are held to a relation. -/
def outs : Fin 4 → Bool := fun w => w.val == 2 || w.val == 3

/-- What is certain of an output block after a point: the weights are stored at a batch's last tile; the support block is
    settled down to the tile. -/
def Rl (c : Dev nD) (w : Fin cfg0.W) (t : Fin cfg0.N) (X : (cfg0.win w).block.Idx → Elt F (cfg0.win w).elt) : Prop :=
  match w, X with
  | ⟨0, _⟩, _ => True
  | ⟨1, _⟩, _ => True
  | ⟨2, _⟩, X => t.val % 4 = 3 → X = wArr m c t.val
  | ⟨3, _⟩, X => SuppGood m c t.val X

theorem Rl_2 (c : Dev nD) (t : Fin cfg0.N) (X : Vec F S1x512x512 .f32) : Rl m c 2 t X ↔ (t.val % 4 = 3 → X = wArr m c t.val) := Iff.rfl
theorem Rl_3 (c : Dev nD) (t : Fin cfg0.N) (X : Vec F S1x512x8x128 .f32) : Rl m c 3 t X ↔ SuppGood m c t.val X := Iff.rfl

/-- The proof data: inputs stay as fetched; the outputs as at the batch's last tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wArr m c t.val
    | ⟨3, _⟩ => suppArr m c (t.val / 4)
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = wArr m c t.val := by dsimp only [dats]
theorem after_3 (c : Dev nD) (t : Fin cfg0.N) : (dats m 0 c).after 3 t = suppArr m c (t.val / 4) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- What a later tile finds in the support block: the earlier tiles' rows settled. -/
theorem finds_supp (c : Dev nD) (t : Fin cfg0.N) (h : 1 ≤ t.val % 4) (Y : Vec F S1x512x8x128 .f32)
    (hY : (Held (dats m 0 c) outs (Rl m c)).Finds 3 t Y) : SuppGood m c (t.val - 1) Y := by
  have ht := pt_lt t
  have hY' := (RDat.finds_of_pos (Held (dats m 0 c) outs (Rl m c)) (w := 3) (t := t) rfl (by omega) Y).mp hY
  rcases hY' with hf | hl
  · exfalso
    have hf' := (flush0_3 _).mp hf
    dsimp only at hf'
    omega
  · have h3 : Rl m c 3 ⟨t.val - 1, Nat.lt_of_le_of_lt (Nat.sub_le _ _) t.isLt⟩ Y := by
      refine (dats m 0 c).toRRel_leaves (fgt := outs) (Rl := Rl m c) (w := 3) ?_ hl
      decide
    exact (Rl_3 m c ⟨t.val - 1, Nat.lt_of_le_of_lt (Nat.sub_le _ _) t.isLt⟩ Y).mp h3

end Cert.KernelIdeal.Hand

end
-- ==== Proof.Arrays.lean ====
/-
  What the two output arrays hold when the grid ends, what the host lines after it make of them, and what the input
  blocks are in terms of the arguments.
-/
module

public import proofs.«01_k».proof.Proof.Data
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo
open Idealize.ShloMosaic.Pipeline (Dat RDat)

variable {F : FTy → Type} [FloatOps F]

variable (m : (ℓ : Loc nD τ sig) → Buf (Elt F) ℓ)

/-- The weights array: batch by batch, what the batch's last point stores. -/
def wWhole (c : Dev nD) : Vec F S4x512x512 .f32 := fun j =>
  wArr m c (4 * (j 0).val + 3) (ix3 (0 : Fin 1) (j 1 : Fin 512) (j 2 : Fin 512))

/-- The support array: batch by batch, the batch's settled block. -/
def suppWhole (c : Dev nD) : Vec F S4x512x8x128 .f32 := fun j =>
  suppArr m c (j 0).val (ix4 (0 : Fin 1) (j 1 : Fin 512) (j 2 : Fin 8) (j 3 : Fin 128))

/-! The block each window takes at a point: batch `t / 4`, row tile `t % 4`. -/

theorem index_0 : ∀ t : Fin grid0.N, win0_0.index t = ![0, 0] := by decide +kernel
theorem index_1 : ∀ t : Fin grid0.N, win0_1.index t = ![t.val / 4, t.val % 4, 0] := by decide +kernel
theorem index_2 : ∀ t : Fin grid0.N, win0_2.index t = ![t.val / 4, 0, 0] := by decide +kernel
theorem index_3 : ∀ t : Fin grid0.N, win0_3.index t = ![t.val / 4, 0, 0, 0] := by decide +kernel

/-- The weights array at exit. -/
theorem arr_2 (c : Dev nD) : (dats m 0 c).arrAt 2 cfg0.N = wWhole m c := by
  refine (dats m 0 c).arrAt_eq_of_covers 2 _ (by decide +kernel) fun t hf y => ?_
  blk_simp
  rw [after_2]
  have h3 := (flush0_2 t).mp hf
  have ht := pt_lt t
  have y0 : (y 0).val < 1 := (y 0).isLt
  unfold wWhole
  have e0 : (((win0_2.blk t).view.emb y 0 : Fin _) : ℕ) = t.val / 4 := by blk_simp [index_2]
  have e1 : (((win0_2.blk t).view.emb y 1 : Fin _) : ℕ) = (y 1).val := by blk_simp [index_2]
  have e2 : (((win0_2.blk t).view.emb y 2 : Fin _) : ℕ) = (y 2).val := by blk_simp [index_2]
  rw [e0, show 4 * (t.val / 4) + 3 = t.val by omega]
  refine congrArg (wArr m c t.val) (funext fun k => Fin.ext ?_)
  fin_cases k
  · show (y 0).val = 0
    omega
  · exact e1.symm
  · exact e2.symm

/-- The support array at exit. -/
theorem arr_3 (c : Dev nD) : (dats m 0 c).arrAt 3 cfg0.N = suppWhole m c := by
  refine (dats m 0 c).arrAt_eq_of_covers 3 _ (by decide +kernel) fun t hf y => ?_
  blk_simp
  rw [after_3]
  have h3 := (flush0_3 t).mp hf
  have ht := pt_lt t
  have y0 : (y 0).val < 1 := (y 0).isLt
  unfold suppWhole
  have e0 : (((win0_3.blk t).view.emb y 0 : Fin _) : ℕ) = t.val / 4 := by blk_simp [index_3]
  have e1 : (((win0_3.blk t).view.emb y 1 : Fin _) : ℕ) = (y 1).val := by blk_simp [index_3]
  have e2 : (((win0_3.blk t).view.emb y 2 : Fin _) : ℕ) = (y 2).val := by blk_simp [index_3]
  have e3 : (((win0_3.blk t).view.emb y 3 : Fin _) : ℕ) = (y 3).val := by blk_simp [index_3]
  rw [e0]
  refine congrArg (suppArr m c (t.val / 4)) (funext fun k => Fin.ext ?_)
  fin_cases k
  · show (y 0).val = 0
    omega
  · exact e1.symm
  · exact e2.symm
  · exact e3.symm

/-- A histogram block: 1024 rows of a batch's histogram. -/
theorem iblk_1 (c : Dev nD) (t : Fin cfg0.N) (r : Fin 1024) (q : Fin 4096) :
    iblk m c 1 t (ix3 (0 : Fin 1) r q) = m ((c : Thread nD τ).loc main_arg0) (ix3 (⟨t.val / 4, by have := pt_lt t; omega⟩ : Fin 4)
      (⟨1024 * (t.val % 4) + r.val, by have := r.isLt; omega⟩ : Fin 4096) q) := by
  blk_simp [iblk]
  rw [V_main_arg0]
  refine congrArg (m ((c : Thread nD τ).loc main_arg0)) ?_
  blk_ext [index_1]

/-- The parameter block: the whole table. -/
theorem iblk_0 (c : Dev nD) (t : Fin cfg0.N) (b k : Fin 4) :
    iblk m c 0 t (ix2 b k) = V m c main_v30 (ix2 b k) := by
  blk_simp [iblk]
  refine congrArg (V m c main_v30) ?_
  blk_ext [index_0]

/-- The last host line before the grid puts the four columns side by side. -/
def packed (W : Valuation τ sig (Elt F)) : Vec F S4x4 .f32 :=
  concatenate S4x4 1 [⟨S4x1, (W (Proc.devRef .tc main_v26) : Vec F S4x1 .f32)⟩, ⟨S4x1, (W (Proc.devRef .tc main_v27) : Vec F S4x1 .f32)⟩,
    ⟨S4x1, (W (Proc.devRef .tc main_v28) : Vec F S4x1 .f32)⟩, ⟨S4x1, (W (Proc.devRef .tc main_v29) : Vec F S4x1 .f32)⟩]
    concatenates_S4x1_S4x1_S4x1_S4x1_S4x4_d1

/-- The line read at its result, over any contents before it. -/
theorem packed_step (W : Valuation τ sig (Elt F)) :
    StableHlo.after (List.drop 32 (hostOps0 (F := F))) W (Proc.devRef .tc main_v30) = packed (StableHlo.after (List.drop 32 (hostOps0 (F := F))) W) := by
  rfl

/-- Two lines in a row. -/
theorem after_two (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- The parameter table: the four columns the host lines computed. -/
theorem host_v30 (c : Dev nD) : V m c main_v30 = packed (V0 m c) := by
  have e : List.flatten [hostOps0 (F := F)] = List.take 32 (hostOps0 (F := F)) ++ List.drop 32 (hostOps0 (F := F)) := by
    rw [List.take_append_drop]; simp only [List.flatten_cons, List.flatten_nil, List.append_nil]
  unfold V V0
  rw [e, after_two]
  exact packed_step (StableHlo.after (List.take 32 (hostOps0 (F := F))) (fun b => m (c, b)))

/-- The table's first column: the x offset of each batch, shifted. -/
theorem host_v26 (c : Dev nD) : V m c main_v26 = broadcastInDim S4x1 ![0] bcast_S4_S4x1_0
      (addf (shapeCast S4 (extractStridedSlice S4x1 ![0, 0] (m ((c : Thread nD τ).loc main_arg1)) slices_S4x2_S4x1_0_0) shapeCasts_S4x1_S4)
        (broadcastInDim S4 ![] bcast_S_S4 (shapeCast S_
          (extractStridedSlice S1x1x1 ![0, 0, 0] (m ((c : Thread nD τ).loc main_arg3)) slices_S1x1x2_S1x1x1_0_0_0) shapeCasts_S1x1x1_S_))) := by
  simp only [V, V0, hostOps0, List.flatten_cons, List.flatten_nil, List.append_nil]
  after_results_simp
  rfl

/-- The second column: the x extent of a cell. -/
theorem host_v27 (c : Dev nD) : V m c main_v27 = broadcastInDim S4x1 ![0] bcast_S4_S4x1_0
      (Host.divf (subf
          (shapeCast S4 (extractStridedSlice S4x1 ![0, 1] (m ((c : Thread nD τ).loc main_arg1)) slices_S4x2_S4x1_0_1) shapeCasts_S4x1_S4)
          (shapeCast S4 (extractStridedSlice S4x1 ![0, 0] (m ((c : Thread nD τ).loc main_arg1)) slices_S4x2_S4x1_0_0) shapeCasts_S4x1_S4))
        (broadcastInDim S4 ![] bcast_S_S4 (constant S_ FTy.f32 0x44000000#32))) := by
  simp only [V, V0, hostOps0, List.flatten_cons, List.flatten_nil, List.append_nil]
  after_results_simp
  rfl

/-- The third column: the y offset, shifted. -/
theorem host_v28 (c : Dev nD) : V m c main_v28 = broadcastInDim S4x1 ![0] bcast_S4_S4x1_0
      (addf (shapeCast S4 (extractStridedSlice S4x1 ![0, 0] (m ((c : Thread nD τ).loc main_arg2)) slices_S4x2_S4x1_0_0) shapeCasts_S4x1_S4)
        (broadcastInDim S4 ![] bcast_S_S4 (shapeCast S_
          (extractStridedSlice S1x1x1 ![0, 0, 1] (m ((c : Thread nD τ).loc main_arg3)) slices_S1x1x2_S1x1x1_0_0_1) shapeCasts_S1x1x1_S_))) := by
  simp only [V, V0, hostOps0, List.flatten_cons, List.flatten_nil, List.append_nil]
  after_results_simp
  rfl

/-- The fourth column: the y extent of a cell. -/
theorem host_v29 (c : Dev nD) : V m c main_v29 = broadcastInDim S4x1 ![0] bcast_S4_S4x1_0
      (Host.divf (subf
          (shapeCast S4 (extractStridedSlice S4x1 ![0, 1] (m ((c : Thread nD τ).loc main_arg2)) slices_S4x2_S4x1_0_1) shapeCasts_S4x1_S4)
          (shapeCast S4 (extractStridedSlice S4x1 ![0, 0] (m ((c : Thread nD τ).loc main_arg2)) slices_S4x2_S4x1_0_0) shapeCasts_S4x1_S4))
        (broadcastInDim S4 ![] bcast_S_S4 (constant S_ FTy.f32 0x44000000#32))) := by
  simp only [V, V0, hostOps0, List.flatten_cons, List.flatten_nil, List.append_nil]
  after_results_simp
  rfl

/-- The support result: the support array with each pair of sublanes turned into the two coordinates of 128 cells. -/
theorem res_34 (c : Dev nD) : Pipeline.afterTail₀ cfgs (dats m) 0 (V0 m) [hostOps1] c main_v34
    = shapeCast S4x262144x2 (transpose S4x2048x128x2 [0, 1, 3, 2]
        (shapeCast S4x2048x2x128 (suppWhole m c) shapeCasts_S4x512x8x128_S4x2048x2x128)
        transposes_S4x2048x2x128_S4x2048x128x2_0_1_3_2) shapeCasts_S4x2048x128x2_S4x262144x2 := by
  have e := Pipeline.withArrays_arr spec0 (by decide) c (V0 m c) (fun w => (dats m 0 c).arrAt w cfg0.N) 3
  rw [arr_3] at e
  unfold Pipeline.afterTail₀
  simp only [hostOps1, List.flatten_cons, List.flatten_nil, List.append_nil]
  after_results_simp
  rw [← e]
  rfl

/-- The weights result: the weights array with each batch's rows end to end. -/
theorem res_35 (c : Dev nD) : Pipeline.afterTail₀ cfgs (dats m) 0 (V0 m) [hostOps1] c main_v35
    = shapeCast S4x262144 (wWhole m c) shapeCasts_S4x512x512_S4x262144 := by
  have e := Pipeline.withArrays_arr spec0 (by decide) c (V0 m c) (fun w => (dats m 0 c).arrAt w cfg0.N) 2
  rw [arr_2] at e
  unfold Pipeline.afterTail₀
  simp only [hostOps1, List.flatten_cons, List.flatten_nil, List.append_nil]
  after_results_simp
  rw [← e]
  rfl

end Cert.KernelIdeal.Hand

end
-- ==== Proof.Words.lean ====
/-
  Integer words and the sums they select.

  The kernel computes its cell numbers in 32-bit words, with the rounding corrections of a signed floor division and
  of a floor remainder; on the small non-negative words it meets these are the natural quotient and remainder. Its
  pooling matrices are indicators "row `k` belongs to cell `r`"; multiplying by one and summing keeps the eight
  rows of the cell.
-/
module

public import Idealize.ShloMosaic.Lib.Pointwise
public import Idealize.ShloMosaic.Lib.ValueIdx
public import Idealize.ShloMosaic.Lib.WordCmp
public import Idealize.ShloMosaic.Lib.IdealHost
public import Idealize.ShloMosaic.Lib.Routing.Words

@[expose] public section

set_option maxRecDepth 16384

noncomputable section

namespace Cert.KernelIdeal.Hand

open Idealize.ShloMosaic Idealize.ShloMosaic.WordCmp Idealize.ShloMosaic.Routing

/-- A floor division of small non-negative words: the correction "quotient less one where the signs differ and the
    remainder is not zero" never applies, so the result is the word of the natural quotient. -/
theorem floor_word {n d : ℕ} (hn : n < 2 ^ 31) (h0 : 0 < d) (hd : d < 2 ^ 31) (s : BitVec 32) (hs : s = 1#32) :
    Scalar.select
      (IntOp.andi
        (IntOp.cmpi .ne
          (IntOp.subi (BitVec.setWidth 32 (IntOp.cmpi .sgt (BitVec.ofNat 32 n) 0#32))
            (BitVec.setWidth 32 (IntOp.cmpi .slt (BitVec.ofNat 32 n) 0#32))) s)
        (IntOp.cmpi .ne (IntOp.remsi ArithUnit.vector (BitVec.ofNat 32 n) (BitVec.ofNat 32 d)) 0#32))
      (IntOp.subi (IntOp.divsi ArithUnit.vector (BitVec.ofNat 32 n) (BitVec.ofNat 32 d)) 1#32)
      (IntOp.divsi ArithUnit.vector (BitVec.ofNat 32 n) (BitVec.ofNat 32 d)) = BitVec.ofNat 32 (n / d) := by
  rw [divsi_word _ hn h0 hd, remsi_word _ hn h0 hd, hs]
  rcases Nat.eq_zero_or_pos n with rfl | hp
  · rw [Nat.zero_mod]
    rfl
  · have h1 : IntOp.cmpi .sgt (BitVec.ofNat 32 n) 0#32 = 1#1 := by
      rw [cmpi_sgt_ofNat (by omega) (by omega), decide_eq_true hp]
      rfl
    have h2 : IntOp.cmpi .slt (BitVec.ofNat 32 n) 0#32 = 0#1 := by
      rw [cmpi_slt_ofNat (by omega) (by omega)]
      simp
    rw [h1, h2]
    have h3 : IntOp.cmpi .ne (IntOp.subi (BitVec.setWidth 32 (1#1)) (BitVec.setWidth 32 (0#1))) 1#32 = 0#1 := by decide
    rw [h3]
    have h4 : ∀ x : BitVec 1, IntOp.andi 0#1 x = 0#1 := by decide
    rw [h4]
    rfl

/-- A floor remainder of small non-negative words: the correction "remainder plus divisor where the signs differ"
    never applies, so the result is the word of the natural remainder. -/
theorem mod_word {n d : ℕ} (hn : n < 2 ^ 31) (h0 : 0 < d) (hd : d < 2 ^ 31) (b : BitVec 1) (hb : b = 0#1) (y : BitVec 32) :
    Scalar.select
      (IntOp.andi
        (IntOp.xori (IntOp.cmpi .slt (IntOp.remsi ArithUnit.vector (BitVec.ofNat 32 n) (BitVec.ofNat 32 d)) 0#32) b)
        (IntOp.cmpi .ne (IntOp.remsi ArithUnit.vector (BitVec.ofNat 32 n) (BitVec.ofNat 32 d)) 0#32))
      y (IntOp.remsi ArithUnit.vector (BitVec.ofNat 32 n) (BitVec.ofNat 32 d)) = BitVec.ofNat 32 (n % d) := by
  have hm : n % d < d := Nat.mod_lt _ h0
  rw [remsi_word _ hn h0 hd, hb]
  have h2 : IntOp.cmpi .slt (BitVec.ofNat 32 (n % d)) 0#32 = 0#1 := by
    rw [cmpi_slt_ofNat (by omega) (by omega)]
    simp
  rw [h2]
  have h4 : ∀ x : BitVec 1, IntOp.andi (IntOp.xori 0#1 0#1) x = 0#1 := by decide
  rw [h4]
  rfl

/-- The bit "two small words are equal", widened and converted to a number, is one where the naturals agree and zero
    elsewhere. -/
theorem indicator_word {a b : ℕ} (ha : a < 2 ^ 31) (hb : b < 2 ^ 31) :
    (FloatOps.sitofp (F := Ideal) .f32 (BitVec.setWidth 32 (IntOp.cmpi .eq (BitVec.ofNat 32 a) (BitVec.ofNat 32 b))) : EReal)
      = if a = b then 1 else 0 := by
  rw [cmpi_eq_ofNat (by omega) (by omega)]
  by_cases h : a = b
  · rw [if_pos h, decide_eq_true h]
    show ((((BitVec.setWidth 32 (BitVec.ofBool true)).toInt : ℤ) : ℝ) : EReal) = 1
    have : (BitVec.setWidth 32 (BitVec.ofBool true)).toInt = 1 := by decide
    rw [this]; simp
  · rw [if_neg h, decide_eq_false h]
    show ((((BitVec.setWidth 32 (BitVec.ofBool false)).toInt : ℤ) : ℝ) : EReal) = 0
    have : (BitVec.setWidth 32 (BitVec.ofBool false)).toInt = 0 := by decide
    rw [this]; simp

/-- A small word converted to a number is that natural. -/
theorem number_word {a : ℕ} (ha : a < 2 ^ 31) :
    (FloatOps.sitofp (F := Ideal) .f32 (BitVec.ofNat 32 a) : EReal) = ((a : ℝ) : EReal) := by
  show ((((BitVec.ofNat 32 a).toInt : ℤ) : ℝ) : EReal) = _
  rw [toInt_ofNat_of_lt (by omega)]
  simp

/-- A sum over `n · k` positions is the double sum over `n` groups of `k` consecutive positions. -/
theorem sum_groups {N : ℕ} (n k : ℕ) (hN : N = n * k) (f : Fin N → EReal) :
    ∑ i, f i = ∑ r : Fin n, ∑ a : Fin k, f ⟨k * r.val + a.val, by
      have := r.isLt; have := a.isLt; subst hN
      calc k * r.val + a.val < k * r.val + k := by omega
        _ = (r.val + 1) * k := by ring
        _ ≤ n * k := Nat.mul_le_mul_right k (by omega)⟩ := by
  subst hN
  rw [← finProdFinEquiv.sum_comp, Fintype.sum_prod_type]
  refine Finset.sum_congr rfl fun r _ => Finset.sum_congr rfl fun a _ => congrArg f (Fin.ext ?_)
  exact Nat.add_comm a.val (k * r.val)

/-- Summing against the indicator of cell `r` keeps the cell's eight positions. -/
theorem sum_cell {N : ℕ} (n : ℕ) (hN : N = n * 8) (f : Fin N → EReal) (r : ℕ) (hr : r < n) :
    ∑ i : Fin N, (if i.val / 8 = r then (1 : EReal) else 0) * f i
      = ∑ a : Fin 8, f ⟨8 * r + a.val, by have := a.isLt; omega⟩ := by
  rw [sum_groups n 8 hN]
  have h : ∀ s : Fin n, (∑ a : Fin 8, (if (8 * s.val + a.val) / 8 = r then (1 : EReal) else 0)
      * f ⟨8 * s.val + a.val, by have := a.isLt; have := s.isLt; omega⟩)
      = if s = ⟨r, hr⟩ then ∑ a : Fin 8, f ⟨8 * r + a.val, by have := a.isLt; omega⟩ else 0 := by
    intro s
    by_cases hs : s = ⟨r, hr⟩
    · subst hs
      rw [if_pos rfl]
      refine Finset.sum_congr rfl fun a _ => ?_
      rw [if_pos (by have := a.isLt; show (8 * r + a.val) / 8 = r; omega), one_mul]
    · rw [if_neg hs]
      refine Finset.sum_eq_zero fun a _ => ?_
      rw [if_neg (by
        intro h; apply hs; apply Fin.ext; show s.val = r
        have := a.isLt; omega), zero_mul]
  exact (Finset.sum_congr rfl fun s _ => h s).trans (by simp)

end Cert.KernelIdeal.Hand

end
-- ==== Proof.Pool.lean ====
/-
  What one histogram block pools to, over the extended reals.

  A block of 1024 rows and 4096 columns is multiplied on the left and on the right by indicator matrices; entry
  `(r, c)` of the product is the sum of the 8 × 8 cell at `(8 r, 8 c)`. The tile's sum over all its entries is what
  the running total takes in, and a batch's last tile scales the accumulator by the total's inverse.
-/
module

public import proofs.«01_k».proof.Proof.Data
public import proofs.«01_k».proof.Proof.Words
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The column matrix: entry `(r, c)` is one where row `r` lies in cell `c`, zero elsewhere. -/
theorem pay3_apply (r : Fin 4096) (c : Fin 512) :
    (k0_pay3 : FVec Ideal S4096x512 .f32) (ix2 r c) = if r.val / 8 = c.val then 1 else 0 := by
  unfold k0_pay3
  pointwise
  have := r.isLt
  have := c.isLt
  rw [floor_word (by omega) (by omega) (by omega) _ (by decide)]
  exact indicator_word (by omega) (by omega)

/-- The pooled tile: entry `(r, c)` sums the block over the 8 × 8 cell at `(8 r, 8 c)`. -/
theorem pay4_apply (x : Vec Ideal S1x1024x4096 .f32) (r : Fin 128) (c : Fin 512) :
    k0_pay4 (F := Ideal) x (k0_pay3 (F := Ideal)) (ix2 r c)
      = ∑ b : Fin 8, ∑ a : Fin 8, (x (ix3 (0 : Fin 1)
          (⟨8 * r.val + a.val, by have := r.isLt; have := a.isLt; omega⟩ : Fin 1024)
          (⟨8 * c.val + b.val, by have := c.isLt; have := b.isLt; omega⟩ : Fin 4096)) : EReal) := by
  have hr := r.isLt
  have hc := c.isLt
  unfold k0_pay4
  pointwise
  have inner : ∀ q : Fin 4096, (∑ k : Fin 1024,
      (FloatOps.sitofp (F := Ideal) .f32 (BitVec.setWidth 32
        (IntOp.cmpi .eq
          (Scalar.select
            (IntOp.andi
              (IntOp.cmpi .ne
                (IntOp.subi (BitVec.setWidth 32 (IntOp.cmpi .sgt (BitVec.ofNat 32 k.val) 0#32))
                  (BitVec.setWidth 32 (IntOp.cmpi .slt (BitVec.ofNat 32 k.val) 0#32)))
                (Scalar.subi (Scalar.extui (Scalar.cmpi .sgt 8#32 0#32)) (Scalar.extui (Scalar.cmpi .slt 8#32 0#32))))
              (IntOp.cmpi .ne (IntOp.remsi ArithUnit.vector (BitVec.ofNat 32 k.val) 8#32) 0#32))
            (IntOp.subi (IntOp.divsi ArithUnit.vector (BitVec.ofNat 32 k.val) 8#32) 1#32)
            (IntOp.divsi ArithUnit.vector (BitVec.ofNat 32 k.val) 8#32))
          (BitVec.ofNat 32 r.val))) : EReal) * (x (ix3 (0 : Fin 1) k q) : EReal))
      = ∑ a : Fin 8, (x (ix3 (0 : Fin 1) (⟨8 * r.val + a.val, by have := a.isLt; omega⟩ : Fin 1024) q) : EReal) := by
    intro q
    refine (Finset.sum_congr rfl fun k _ => ?_).trans
      (sum_cell 128 rfl (fun k : Fin 1024 => (x (ix3 (0 : Fin 1) k q) : EReal)) r.val hr)
    have := k.isLt
    rw [floor_word (by omega) (by omega) (by omega) _ (by decide), indicator_word (by omega) (by omega)]
  refine (Finset.sum_congr rfl fun q _ => ?_).trans
    (sum_cell 512 rfl (fun q : Fin 4096 => ∑ a : Fin 8,
      (x (ix3 (0 : Fin 1) (⟨8 * r.val + a.val, by have := a.isLt; omega⟩ : Fin 1024) q) : EReal)) c.val hc)
  refine (congrArg₂ (· * ·) (inner q) (pay3_apply q c)).trans ?_
  exact mul_comm _ _

/-- A tile's sum: all its entries. -/
theorem pay6_apply (v : FVec Ideal S128x512 .f32) :
    k0_pay6 v = ∑ r : Fin 128, ∑ c : Fin 512, (v (ix2 r c) : EReal) := by
  unfold k0_pay6
  pointwise

/-- The running total takes in a tile's sum. -/
theorem pay7_apply (v : FVec Ideal S128x512 .f32) (t : Ideal .f32) :
    k0_pay7 v t = (t : EReal) + ∑ r : Fin 128, ∑ c : Fin 512, (v (ix2 r c) : EReal) := by
  unfold k0_pay7
  rw [pay6_apply]
  rfl

/-- The least total a batch is divided by: a positive number. -/
theorem least_ne_zero (t : EReal) : max t (Ideal.ofBits FTy.f32 0x2B8CBCCC#32) ≠ 0 := by
  have h : (0 : EReal) < Ideal.ofBits FTy.f32 0x2B8CBCCC#32 := by
    simp [Ideal.ofBits, Ideal.ieee]
    exact EReal.mul_pos (EReal.coe_pos.mpr (by norm_num)) (EReal.coe_pos.mpr (by positivity))
  exact ne_of_gt (lt_of_lt_of_le h (le_max_right _ _))

/-- The scaled accumulator: each entry divided by the total, or by the least total where that is greater. -/
theorem pay2_apply (t : Ideal .f32) (v : Vec Ideal S512x512 .f32) (a : Fin 1) (r c : Fin 512) :
    k0_pay2 (F := Ideal) t v (ix3 a r c) = Ideal.div (v (ix2 r c)) (max t (Ideal.ofBits FTy.f32 0x2B8CBCCC#32)) := by
  unfold k0_pay2
  pointwise
  exact Ideal.mul_one_div (least_ne_zero t)

end Cert.KernelIdeal.Hand

end
-- ==== Proof.Support.lean ====
/-
  The support tile at an index, over the extended reals.

  Sublane `s` of row `u` holds the x coordinates (even `s`) or the y coordinates (odd `s`) of 128 consecutive cells of
  the 512 × 512 grid; the cell's number is computed in words and split into its column and its row.
-/
module

public import proofs.«01_k».proof.Proof.Tile
public import proofs.«01_k».proof.Proof.Words

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The number of the cell at row `u`, sublane `s`, lane `l` of the tile of point `i`. -/
def cellNo (i : grid0.Coords) (u : Fin 128) (s : Fin 8) (l : Fin 128) : ℕ :=
  ((128 * (i 1).val + u.val) * 4 + s.val / 2) * 128 + l.val

/-- It is below 2¹⁸. -/
theorem cellNo_lt (i : grid0.Coords) (u : Fin 128) (s : Fin 8) (l : Fin 128) : cellNo i u s l < 262144 := by
  have h1 : (i 1).val < 4 := (i 1).isLt
  have := u.isLt
  have := s.isLt
  have := l.isLt
  unfold cellNo
  omega

/-- The word the tile computes for a cell's number is that number's. -/
theorem pay11_apply (i : grid0.Coords) (u : Fin 128) (s : Fin 8) (l : Fin 128) :
    k0_pay11 (iota .tc S128x8x128 32 [1] iota_S128x8x128_d1_w32) (iota .tc S128x8x128 32 [2] iota_S128x8x128_d2_w32)
      (k0_pay8 (BitVec.ofNat 32 (i 1).val)) 2#32 k0_pay9 k0_pay10 (Scalar.cmpi .sgt 2#32 0#32) (ix3 u s l)
      = BitVec.ofNat 32 (cellNo i u s l) := by
  unfold k0_pay11 k0_pay8 k0_pay9 k0_pay10
  pointwise
  have := s.isLt
  rw [floor_word (by omega) (by omega) (by omega) _ (by decide)]
  show ((BitVec.ofNat 32 (i 1).val * BitVec.ofNat 32 128 + BitVec.ofNat 32 u.val) * BitVec.ofNat 32 4
    + BitVec.ofNat 32 (s.val / 2)) * BitVec.ofNat 32 128 + BitVec.ofNat 32 l.val = _
  rw [← BitVec.ofNat_mul, ← BitVec.ofNat_add, ← BitVec.ofNat_mul, ← BitVec.ofNat_add, ← BitVec.ofNat_mul, ← BitVec.ofNat_add]
  unfold cellNo
  rw [Nat.mul_comm (i 1).val 128]

/-- One half, as printed. -/
abbrev half : EReal := Ideal.ofBits FTy.f32 0x3F000000#32

/-- The tile at an index: the cell's x coordinate on even sublanes, its y coordinate on odd ones. -/
theorem suppTile_apply (i : grid0.Coords) (x : Vec Ideal S4x4 .f32) (u : Fin 128) (s : Fin 8) (l : Fin 128) :
    suppTile (F := Ideal) i x (ix4 (0 : Fin 1) u s l)
      = if s.val % 2 = 0 then
          (param x i 0 : EReal) + ((((cellNo i u s l % 512 : ℕ) : ℝ) : EReal) + half) * (param x i 1 : EReal)
        else (param x i 2 : EReal) + ((((cellNo i u s l / 512 : ℕ) : ℝ) : EReal) + half) * (param x i 3 : EReal) := by
  have h11 := pay11_apply i u s l
  have hlt := cellNo_lt i u s l
  have hs := s.isLt
  unfold suppTile k0_pay1 k0_pay15 k0_pay12 k0_pay13 k0_pay14
  generalize k0_pay11 (iota .tc S128x8x128 32 [1] iota_S128x8x128_d1_w32) (iota .tc S128x8x128 32 [2] iota_S128x8x128_d2_w32)
      (k0_pay8 (BitVec.ofNat 32 (i 1).val)) 2#32 k0_pay9 k0_pay10 (Scalar.cmpi .sgt 2#32 0#32) = g at h11 ⊢
  have k2 : Scalar.select (Scalar.cmpi .eq 2#32 0#32) 1#32 2#32 = 2#32 := by decide
  have k512 : Scalar.select (Scalar.cmpi .eq 512#32 0#32) 1#32 512#32 = 512#32 := by decide
  pointwise
  rw [h11, k2, k512, mod_word (by omega) (by omega) (by omega) _ (by decide), mod_word (by omega) (by omega) (by omega) _ (by decide),
    floor_word (by omega) (by omega) (by omega) _ (by decide), number_word (by omega), number_word (by omega)]
  rw [WordCmp.cmpi_eq_ofNat (by omega) (by omega)]
  by_cases h : s.val % 2 = 0
  · rw [if_pos h, decide_eq_true h]
    rfl
  · rw [if_neg h, decide_eq_false h]
    rfl

end Cert.KernelIdeal.Hand

end
-- ==== Proof.Spec.lean ====
/-
  The mathematics of the two results, with no program in sight.

  A histogram's cell `(r, c)` sums its 8 × 8 block; a weight is a cell divided by its histogram's total, or by the least
  total where that is greater. A support coordinate is the midpoint of one of 512 equal cells on an axis, shifted.
  The midpoint is written in two ways, and the two are one number of the extended line.
-/
module

public import proofs.«01_k».proof.Proof.Words

@[expose] public section

set_option maxRecDepth 16384

noncomputable section

namespace Cert.KernelIdeal.Hand

open Idealize.ShloMosaic

/-- The sum of the 8 × 8 block at cell `(r, c)` of batch `b`'s histogram. -/
def block (h : (⟨3, ![4, 4096, 4096]⟩ : Shape).Idx → EReal) (b : Fin 4) (r c : Fin 512) : EReal :=
  ∑ q : Fin 8, ∑ p : Fin 8, h (ix3 b
    (⟨8 * r.val + p.val, by have := r.isLt; have := p.isLt; omega⟩ : Fin 4096)
    (⟨8 * c.val + q.val, by have := c.isLt; have := q.isLt; omega⟩ : Fin 4096))

/-- The sum of all cells of batch `b`'s histogram. -/
def total (h : (⟨3, ![4, 4096, 4096]⟩ : Shape).Idx → EReal) (b : Fin 4) : EReal :=
  ∑ r : Fin 512, ∑ c : Fin 512, block h b r c

/-- The weight of cell `g`, the cells counted row by row. -/
def weight (h : (⟨3, ![4, 4096, 4096]⟩ : Shape).Idx → EReal) (b : Fin 4) (g : Fin 262144) : EReal :=
  Ideal.div (block h b (⟨g.val / 512, by have := g.isLt; omega⟩ : Fin 512) (⟨g.val % 512, Nat.mod_lt _ (by norm_num)⟩ : Fin 512))
    (max (total h b) (Ideal.ofBits FTy.f32 0x2B8CBCCC#32))

/-- One half, as the programs write it. -/
abbrev oneHalf : EReal := Ideal.ofBits FTy.f32 0x3F000000#32

/-- The number of cells on an axis, as the programs write it. -/
abbrev cellCount : EReal := Ideal.ofBits FTy.f32 0x44000000#32

/-- The midpoint of cell `n` on the axis from `lo` to `hi`, shifted: the number's fraction of the extent, then the shift. -/
def cellMid (lo hi shift : EReal) (n : ℕ) : EReal :=
  lo + Ideal.div (((n : ℝ) : EReal) + oneHalf) cellCount * (hi - lo) + shift

/-- There are cells on an axis. -/
theorem cellCount_ne_zero : cellCount ≠ 0 := by
  have h : (0 : EReal) < cellCount := by
    simp [cellCount, Ideal.ofBits, Ideal.ieee]
    exact EReal.mul_pos (EReal.coe_pos.mpr (by norm_num)) (EReal.coe_pos.mpr (by positivity))
  exact ne_of_gt h

/-- The same midpoint with the shift taken in first and the number multiplied by the cell's width. -/
theorem cellMid_eq (lo hi shift : EReal) (n : ℕ) :
    lo + shift + (((n : ℝ) : EReal) + oneHalf) * Ideal.div (hi - lo) cellCount = cellMid lo hi shift n := by
  unfold cellMid Ideal.div
  rw [if_neg cellCount_ne_zero, if_neg cellCount_ne_zero, add_right_comm, mul_assoc, mul_comm (cellCount⁻¹) (hi - lo)]

end Cert.KernelIdeal.Hand

end
-- ==== Proof.Value.lean ====
/-
  What the kernel's two results hold, over the extended reals.

  The pipeline's arrays at an index are the body's tiles at the index's grid point; those are sums over the histogram's
  blocks and coordinates from the parameter table, whose columns the operations before the launch compute.
-/
module

public import proofs.«01_k».proof.Proof.Arrays
public import proofs.«01_k».proof.Proof.Pool
public import proofs.«01_k».proof.Proof.Support
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- The kernel's four arguments on a device. -/
abbrev hist (c : Dev nD) : Vec Ideal S4x4096x4096 .f32 := m ((c : Thread nD τ).loc main_arg0)
abbrev xEnds (c : Dev nD) : Vec Ideal S4x2 .f32 := m ((c : Thread nD τ).loc main_arg1)
abbrev yEnds (c : Dev nD) : Vec Ideal S4x2 .f32 := m ((c : Thread nD τ).loc main_arg2)
abbrev shifts (c : Dev nD) : Vec Ideal S1x1x2 .f32 := m ((c : Thread nD τ).loc main_arg3)

/-- The parameter table's first column: the lower x end, shifted. -/
theorem table_0 (c : Dev nD) (b : Fin 4) : (V m c main_v30 : Vec Ideal S4x4 .f32) (ix2 b (0 : Fin 4))
    = (xEnds m c (ix2 b (0 : Fin 2)) : EReal) + shifts m c (ix3 (0 : Fin 1) (0 : Fin 1) (0 : Fin 2)) := by
  rw [host_v30]
  unfold packed
  pointwise
  rw [show V0 m c (Proc.devRef .tc main_v26) = _ from host_v26 m c]
  pointwise

/-- Its second column: the width of an x cell. -/
theorem table_1 (c : Dev nD) (b : Fin 4) : (V m c main_v30 : Vec Ideal S4x4 .f32) (ix2 b (1 : Fin 4))
    = Ideal.div ((xEnds m c (ix2 b (1 : Fin 2)) : EReal) - xEnds m c (ix2 b (0 : Fin 2))) cellCount := by
  rw [host_v30]
  unfold packed
  pointwise
  rw [show V0 m c (Proc.devRef .tc main_v27) = _ from host_v27 m c]
  pointwise

/-- Its third column: the lower y end, shifted. -/
theorem table_2 (c : Dev nD) (b : Fin 4) : (V m c main_v30 : Vec Ideal S4x4 .f32) (ix2 b (2 : Fin 4))
    = (yEnds m c (ix2 b (0 : Fin 2)) : EReal) + shifts m c (ix3 (0 : Fin 1) (0 : Fin 1) (1 : Fin 2)) := by
  rw [host_v30]
  unfold packed
  pointwise
  rw [show V0 m c (Proc.devRef .tc main_v28) = _ from host_v28 m c]
  pointwise

/-- Its fourth column: the width of a y cell. -/
theorem table_3 (c : Dev nD) (b : Fin 4) : (V m c main_v30 : Vec Ideal S4x4 .f32) (ix2 b (3 : Fin 4))
    = Ideal.div ((yEnds m c (ix2 b (1 : Fin 2)) : EReal) - yEnds m c (ix2 b (0 : Fin 2))) cellCount := by
  rw [host_v30]
  unfold packed
  pointwise
  rw [show V0 m c (Proc.devRef .tc main_v29) = _ from host_v29 m c]
  pointwise

/-- The pooled rows of a point are its batch's blocks, 128 rows of cells from row `128 (n % 4)` on. -/
theorem pooled_apply (c : Dev nD) (n : ℕ) (hn : n < 16) (r : Fin 128) (q : Fin 512) :
    pooled m c (pt n) (ix2 r q) = block (hist m c) (⟨n / 4, by omega⟩ : Fin 4)
      (⟨128 * (n % 4) + r.val, by have := r.isLt; omega⟩ : Fin 512) q := by
  unfold pooled block
  rw [pay4_apply]
  refine Finset.sum_congr rfl fun b _ => Finset.sum_congr rfl fun a _ => ?_
  rw [iblk_1]
  have hp := pt_num hn
  have hr := r.isLt
  refine congrArg (hist m c) ?_
  congr 1 <;> apply Fin.ext <;> dsimp only <;> rw [hp]
  omega

/-- The running total after a batch's last tile is the batch's total. -/
theorem totAt_apply (c : Dev nD) (b : Fin 4) : totAt m c (4 * b.val + 3) = total (hist m c) b := by
  have hb := b.isLt
  have tile : ∀ (n : ℕ) (k : Fin 4), n = 4 * b.val + k.val →
      (∑ r : Fin 128, ∑ q : Fin 512, (pooled m c (pt n) (ix2 r q) : EReal))
        = ∑ r : Fin 128, ∑ q : Fin 512, block (hist m c) b (⟨128 * k.val + r.val, by have := r.isLt; have := k.isLt; omega⟩ : Fin 512) q := by
    intro n k hn
    have hk := k.isLt
    refine Finset.sum_congr rfl fun r _ => Finset.sum_congr rfl fun q _ => ?_
    rw [pooled_apply m c n (by omega)]
    congr 1 <;> apply Fin.ext <;> dsimp only <;> omega
  rw [totAt_later m c _ (by omega), totAt_later m c _ (by omega), totAt_later m c _ (by omega), totAt_first m c _ (by omega),
    pay7_apply, pay7_apply, pay7_apply, pay6_apply]
  unfold total
  rw [sum_groups 4 128 rfl, Fin.sum_univ_four]
  exact congrArg₂ (· + ·) (congrArg₂ (· + ·) (congrArg₂ (· + ·) (tile _ 0 (by show _ = 4 * b.val + 0; omega))
    (tile _ 1 (by show _ = 4 * b.val + 1; omega))) (tile _ 2 (by show _ = 4 * b.val + 2; omega))) (tile _ 3 rfl)

/-- The kernel's weights. -/
theorem kernel_weight (c : Dev nD) (b : Fin 4) (g : Fin 262144) :
    shapeCast S4x262144 (wWhole m c) shapeCasts_S4x512x512_S4x262144 (ix2 b g) = weight (hist m c) b g := by
  have hb := b.isLt
  have hg := g.isLt
  pointwise
  show wArr m c (4 * b.val + 3) (ix3 (0 : Fin 1) (⟨g.val / 512, _⟩ : Fin 512) (⟨g.val % 512, _⟩ : Fin 512)) = _
  unfold wArr
  rw [pay2_apply, totAt_apply]
  unfold weight
  refine congrArg (fun x => Ideal.div x _) ?_
  show pooled m c (pt (4 * ((4 * b.val + 3) / 4) + g.val / 512 / 128)) (ix2 (⟨g.val / 512 % 128, _⟩ : Fin 128) (⟨g.val % 512, _⟩ : Fin 512)) = _
  rw [pooled_apply m c _ (by omega)]
  congr 1 <;> apply Fin.ext <;> dsimp only <;> omega

/-- The kernel's support grid. -/
theorem kernel_support (c : Dev nD) (b : Fin 4) (g : Fin 262144) (k : Fin 2) :
    shapeCast S4x262144x2 (transpose S4x2048x128x2 [0, 1, 3, 2]
        (shapeCast S4x2048x2x128 (suppWhole m c) shapeCasts_S4x512x8x128_S4x2048x2x128)
        transposes_S4x2048x2x128_S4x2048x128x2_0_1_3_2) shapeCasts_S4x2048x128x2_S4x262144x2 (ix3 b g k)
      = if k.val < 1 then cellMid (xEnds m c (ix2 b (0 : Fin 2))) (xEnds m c (ix2 b (1 : Fin 2))) (shifts m c (ix3 (0 : Fin 1) (0 : Fin 1) (0 : Fin 2))) (g.val % 512)
        else cellMid (yEnds m c (ix2 b (0 : Fin 2))) (yEnds m c (ix2 b (1 : Fin 2))) (shifts m c (ix3 (0 : Fin 1) (0 : Fin 1) (1 : Fin 2))) (g.val / 512) := by
  have hb := b.isLt
  have hg := g.isLt
  have hk := k.isLt
  pointwise
  show suppTile (grid0.coords (pt (4 * b.val + g.val / 128 / 4 / 128))) (iblk m c 0 (pt (4 * b.val + g.val / 128 / 4 / 128)))
    (ix4 (0 : Fin 1) (⟨g.val / 128 / 4 % 128, _⟩ : Fin 128) (⟨g.val / 128 % 4 * 2 + k.val, _⟩ : Fin 8) (⟨g.val % 128, _⟩ : Fin 128)) = _
  rw [suppTile_apply]
  have hp : (pt (4 * b.val + g.val / 128 / 4 / 128)).val = _ := pt_num (by omega)
  have h0 := coord0 (pt (4 * b.val + g.val / 128 / 4 / 128))
  have h1 := coord1 (pt (4 * b.val + g.val / 128 / 4 / 128))
  have number : cellNo (grid0.coords (pt (4 * b.val + g.val / 128 / 4 / 128))) (⟨g.val / 128 / 4 % 128, by omega⟩ : Fin 128)
      (⟨g.val / 128 % 4 * 2 + k.val, by omega⟩ : Fin 8) (⟨g.val % 128, by omega⟩ : Fin 128) = g.val := by
    unfold cellNo
    rw [h1, hp]
    dsimp only
    omega
  have entry : ∀ x : Fin 4, param (iblk m c 0 (pt (4 * b.val + g.val / 128 / 4 / 128))) (grid0.coords (pt (4 * b.val + g.val / 128 / 4 / 128))) x
      = (V m c main_v30 : Vec Ideal S4x4 .f32) (ix2 b x) := by
    intro x
    unfold param
    rw [iblk_0]
    refine congrArg (V m c main_v30 : Vec Ideal S4x4 .f32) ?_
    congr 1
    apply Fin.ext
    dsimp only
    rw [h0, hp]
    omega
  rw [number, entry, entry, entry, entry, table_0, table_1, table_2, table_3]
  dsimp only
  by_cases h : k.val < 1
  · rw [if_pos h, if_pos (by omega)]
    exact cellMid_eq _ _ _ _
  · rw [if_neg h, if_neg (by omega)]
    exact cellMid_eq _ _ _ _

end Cert.KernelIdeal.Hand

end
-- ==== Proof.Ref.lean ====
/-
  What the reference computes, at an index, over the extended reals.

  Each batch's histogram is summed over its 8 × 8 cells, the sums are divided by the batch's total (or by the least
  total where that is greater), and the support grid is the cells' midpoints, scaled to the batch's extent and shifted.
-/
module

public import proofs.«01_k».proof.Proof.Gen.ReferenceIdeal.Run
public import proofs.«01_k».proof.Proof.Spec
public import Idealize.ShloMosaic.Lib.Pointwise
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.SL.Sem
open Cert.KernelIdeal.Hand (block total weight cellMid oneHalf cellCount sum_groups number_word)

variable {F : FTy → Type} [FloatOps F]

/-- The midpoints of 512 cells on the unit interval. -/
def mid : FVec F S512 .f32 :=
  Host.divf (addf (sitofp .f32 (iotaInDim S512 32 0)) (broadcastInDim S512 ![] bcast_S_S512 (constant S_ .f32 0x3F000000#32)))
    (broadcastInDim S512 ![] bcast_S_S512 (constant S_ .f32 0x44000000#32))

/-- A batch's midpoints on one axis, from the axis's two ends. -/
def ticks (a : FVec F S4x2 .f32) : FVec F S4x512 .f32 :=
  addf (broadcastInDim S4x512 ![0, 1] bcast_S4x1_S4x512_0_1 (extractStridedSlice S4x1 ![0, 0] a slices_S4x2_S4x1_0_0))
    (mulf (broadcastInDim S4x512 ![0, 1] bcast_S1x512_S4x512_0_1 (broadcastInDim S1x512 ![1] bcast_S512_S1x512_1 mid))
      (broadcastInDim S4x512 ![0, 1] bcast_S4x1_S4x512_0_1
        (subf (extractStridedSlice S4x1 ![0, 1] a slices_S4x2_S4x1_0_1) (extractStridedSlice S4x1 ![0, 0] a slices_S4x2_S4x1_0_0))))

/-- The support result. -/
def supp (a1 a2 : FVec F S4x2 .f32) (a3 : FVec F S1x1x2 .f32) : FVec F S4x262144x2 .f32 :=
  addf (shapeCast S4x262144x2 (concatenate S4x512x512x2 3
      [⟨S4x512x512x1, broadcastInDim S4x512x512x1 ![0, 1, 2] bcast_S4x512x512_S4x512x512x1_0_1_2
          (broadcastInDim S4x512x512 ![0, 1, 2] bcast_S4x1x512_S4x512x512_0_1_2
            (broadcastInDim S4x1x512 ![0, 2] bcast_S4x512_S4x1x512_0_2 (ticks a1)))⟩,
        ⟨S4x512x512x1, broadcastInDim S4x512x512x1 ![0, 1, 2] bcast_S4x512x512_S4x512x512x1_0_1_2
          (broadcastInDim S4x512x512 ![0, 1, 2] bcast_S4x512x1_S4x512x512_0_1_2
            (broadcastInDim S4x512x1 ![0, 1] bcast_S4x512_S4x512x1_0_1 (ticks a2)))⟩]
      concatenates_S4x512x512x1_S4x512x512x1_S4x512x512x2_d3) shapeCasts_S4x512x512x2_S4x262144x2)
    (broadcastInDim S4x262144x2 ![0, 1, 2] bcast_S1x1x2_S4x262144x2_0_1_2 a3)

/-- The cell sums, a batch's rows end to end. -/
def cells (a0 : FVec F S4x4096x4096 .f32) : FVec F S4x262144 .f32 :=
  shapeCast S4x262144 (Host.reduceAdd (shapeCast S4x512x8x512x8 a0 shapeCasts_S4x4096x4096_S4x512x8x512x8)
    (constant S_ .f32 0x00000000#32) reducesTo_S4x512x8x512x8_S4x512x512_d2_4 h_S_) shapeCasts_S4x512x512_S4x262144

/-- A batch's total, or the least total where that is greater. -/
def divisor (a0 : FVec F S4x4096x4096 .f32) : FVec F S4x1 .f32 :=
  maximumf (broadcastInDim S4x1 ![] bcast_S_S4x1 (constant S_ .f32 0x2B8CBCCC#32))
    (broadcastInDim S4x1 ![0] bcast_S4_S4x1_0
      (Host.reduceAdd (cells a0) (constant S_ .f32 0x00000000#32) reducesTo_S4x262144_S4_d1 h_S_))

/-- The weights result. -/
def weights (a0 : FVec F S4x4096x4096 .f32) : FVec F S4x262144 .f32 :=
  Host.divf (cells a0) (broadcastInDim S4x262144 ![0, 1] bcast_S4x1_S4x262144_0_1 (divisor a0))

/-- The reference runs, ends with the two results so and the arguments as they were, and with every counter at zero. -/
theorem run_all (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v47)
        = supp (m ((c.tc : Thread nD τ).loc main_arg1)) (m ((c.tc : Thread nD τ).loc main_arg2)) (m ((c.tc : Thread nD τ).loc main_arg3))
      ∧ r.2.mem ((c.tc : Thread nD τ).loc main_v45) = weights (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨h, sem_eq_zero_of_no_sems (by decide) r.2⟩) (Cert.ReferenceIdeal.Value.run m ρ)

/-- The host's sum over axes 2 and 4 of a rank-5 array: at `(b, r, c)` it sums the entries `(b, r, p, c, q)`. -/
theorem sum_two_axes (v : S4x512x8x512x8.Idx → EReal) (init : EReal) (b : Fin 4) (r c : Fin 512) :
    Ideal.hostReduceAdd reducesTo_S4x512x8x512x8_S4x512x512_d2_4 v init (ix3 b r c)
      = init + ∑ q : Fin 8, ∑ p : Fin 8, v (ix5 b r p c q) := by
  unfold Ideal.hostReduceAdd
  rw [Finset.sum_filter_eq_sum_of_fiber _ (fun k : Fin 8 × Fin 8 => (ix5 b r k.2 c k.1 : S4x512x8x512x8.Idx))
    (fun k k' e => Prod.ext (congrFun e 4) (congrFun e 2)), Fintype.sum_prod_type]
  intro i
  have h0 := fun i => Shape.ReducesTo.drop_apply_val_of_eq reducesTo_S4x512x8x512x8_S4x512x512_d2_4 i 0 0
  have h1 := fun i => Shape.ReducesTo.drop_apply_val_of_eq reducesTo_S4x512x8x512x8_S4x512x512_d2_4 i 1 1
  have h2 := fun i => Shape.ReducesTo.drop_apply_val_of_eq reducesTo_S4x512x8x512x8_S4x512x512_d2_4 i 2 3
  constructor
  · intro e
    refine ⟨(i 4, i 2), ?_⟩
    rw [eq_ix5 i]
    have e0 : i 0 = b := Fin.ext ((h0 i).symm.trans (congrArg Fin.val (congrFun e 0)))
    have e1 : i 1 = r := Fin.ext ((h1 i).symm.trans (congrArg Fin.val (congrFun e 1)))
    have e3 : i 3 = c := Fin.ext ((h2 i).symm.trans (congrArg Fin.val (congrFun e 2)))
    rw [e0, e1, e3]
    rfl
  · rintro ⟨k, rfl⟩
    funext a
    apply Fin.ext
    match a with
    | ⟨0, _⟩ => exact h0 _
    | ⟨1, _⟩ => exact h1 _
    | ⟨2, _⟩ => exact h2 _

/-- A cell sum is the sum of the cell's block. -/
theorem cells_apply (a0 : FVec Ideal S4x4096x4096 .f32) (b : Fin 4) (g : Fin 262144) :
    cells a0 (ix2 b g) = block a0 b (⟨g.val / 512, by have := g.isLt; omega⟩ : Fin 512) (⟨g.val % 512, Nat.mod_lt _ (by norm_num)⟩ : Fin 512) := by
  unfold cells
  pointwise
  rw [sum_two_axes, zero_add]
  unfold block
  refine Finset.sum_congr rfl fun q _ => Finset.sum_congr rfl fun p _ => ?_
  pointwise
  refine congrArg a0 ?_
  congr 1 <;> apply Fin.ext <;> dsimp only <;> omega

/-- A batch's cell sums add up to its total. -/
theorem cells_sum (a0 : FVec Ideal S4x4096x4096 .f32) (b : Fin 4) :
    ∑ g : Fin 262144, (cells a0 (ix2 b g) : EReal) = total a0 b := by
  rw [sum_groups 512 512 rfl]
  unfold total
  refine Finset.sum_congr rfl fun r _ => Finset.sum_congr rfl fun c _ => ?_
  rw [cells_apply]
  have hc := c.isLt
  congr 1 <;> apply Fin.ext <;> dsimp only <;> omega

/-- The reference's weights. -/
theorem weights_apply (a0 : FVec Ideal S4x4096x4096 .f32) (b : Fin 4) (g : Fin 262144) :
    weights a0 (ix2 b g) = weight a0 b g := by
  unfold weights divisor
  pointwise
  rw [cells_sum, cells_apply, max_comm]
  rfl

/-- A batch's midpoint before the shift. -/
theorem ticks_apply (a : FVec Ideal S4x2 .f32) (b : Fin 4) (g : Fin 512) :
    ticks a (ix2 b g) = (a (ix2 b (0 : Fin 2)) : EReal) + Ideal.div (((g.val : ℝ) : EReal) + oneHalf) cellCount
      * ((a (ix2 b (1 : Fin 2)) : EReal) - a (ix2 b (0 : Fin 2))) := by
  unfold ticks mid
  pointwise
  rw [number_word (by have := g.isLt; omega)]

/-- The reference's support grid: the first coordinate follows the column, the second the row. -/
theorem supp_apply (a1 a2 : FVec Ideal S4x2 .f32) (a3 : FVec Ideal S1x1x2 .f32) (b : Fin 4) (g : Fin 262144) (k : Fin 2) :
    supp a1 a2 a3 (ix3 b g k)
      = if k.val < 1 then cellMid (a1 (ix2 b (0 : Fin 2))) (a1 (ix2 b (1 : Fin 2))) (a3 (ix3 (0 : Fin 1) (0 : Fin 1) (0 : Fin 2))) (g.val % 512)
        else cellMid (a2 (ix2 b (0 : Fin 2))) (a2 (ix2 b (1 : Fin 2))) (a3 (ix3 (0 : Fin 1) (0 : Fin 1) (1 : Fin 2))) (g.val / 512) := by
  unfold supp
  pointwise
  have hk := k.isLt
  by_cases h : k.val < 1
  · have e : k = 0 := Fin.ext (by show k.val = 0; omega)
    rw [dif_pos h, if_pos h, ticks_apply]
    exact congrArg (_ + ·) (congrArg (fun x : Fin 2 => a3 (ix3 (0 : Fin 1) (0 : Fin 1) x)) e)
  · have e : k = 1 := Fin.ext (by show k.val = 1; omega)
    rw [dif_neg h, if_neg h, ticks_apply]
    exact congrArg (_ + ·) (congrArg (fun x : Fin 2 => a3 (ix3 (0 : Fin 1) (0 : Fin 1) x)) e)

end Cert.ReferenceIdeal.Hand

end
-- ==== Proof.Oblig.lean ====
/-
  The body at every grid point: from what holds before the point to what holds after it.
-/
module

public import proofs.«01_k».proof.Proof.Data

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ)

/-- What the body is called with, the windows one by one, -/
def bodyPre (c : Dev nD) (t : Fin cfg0.N) : sProp 𝕄 :=
  iprop(Inv m c t.val ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ Y, ⌜(Held (dats m 0 c) outs (Rl m c)).Finds 2 t Y⌝ ∗ owns (c : Thread nD τ) (st2 t) fullShare Y)
    ∗ (∃ Y, ⌜(Held (dats m 0 c) outs (Rl m c)).Finds 3 t Y⌝ ∗ owns (c : Thread nD τ) (st3 t) fullShare Y))

/-- and what it returns. -/
def bodyPost (c : Dev nD) (t : Fin cfg0.N) : sProp 𝕄 :=
  iprop(Inv m c (t.val + 1) ∗ (dats m 0 c).owesAt () t.castSucc
    ∗ owns (c : Thread nD τ) (st0 t) fullShare ((dats m 0 c).after 0 t)
    ∗ owns (c : Thread nD τ) (st1 t) fullShare ((dats m 0 c).after 1 t)
    ∗ (∃ X, ⌜Rl m c 2 t X⌝ ∗ owns (c : Thread nD τ) (st2 t) fullShare X)
    ∗ (∃ X, ⌜Rl m c 3 t X⌝ ∗ owns (c : Thread nD τ) (st3 t) fullShare X))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [after_0, after_1, Inv_succ]
  have hN := pt_lt t
  by_cases hz : t.val = 0
  · have hs := (isStart_iff t).mpr hz
    have hf := (isFirst_iff t).mpr (by omega)
    have hl : ¬isLater (grid0.coords t) := fun h => by have := (isLater_iff t).mp h; omega
    have he : ¬isLast (grid0.coords t) := fun h => by have := (isLast_iff t).mp h; omega
    rw [hz, show Inv m c 0 = Pipeline.ΦA spec0 c from rfl, start_eq]
    iintro ⟨⟨⟨⟨%a, HA⟩, HM, HT⟩, Hg⟩, Ho, ⟨%d0, H0⟩, ⟨%d1, H1⟩, ⟨%Y2, %hY2, H2⟩, ⟨%Y3, %hY3, H3⟩⟩
    iapply (runStart c (grid0.coords t) _ (st0_whole t) _ (st1_whole t) _ (st2_whole t) _ (st3_whole t) accM (Memref.isWhole_whole _)
      totM (Memref.isWhole_whole _) matM (Memref.isWhole_whole _) hs hf hl he (iblk m c 0 t) (iblk m c 1 t) Y2 Y3 a Set.univ _)
    isplitl [H0]; · iexact H0
    isplitl [H1]; · iexact H1
    isplitl [H2]; · iexact H2
    isplitl [H3]; · iexact H3
    isplitl [HA]; · iexact HA
    isplitl [HT]; · iexact HT
    isplitl [HM]; · iexact HM
    iintro ⟨H0, H1, H2, H3, HA, HT, HM⟩
    isplitl [HA HT HM Hg]
    · isplitl [HA HT HM]
      · isplitl [HA]
        · iexists _; isplitr; swap; · iexact HA
          ipureintro
          have := accGood_put m c t a (fun h => by omega)
          rw [hz] at this
          exact this
        isplitl [HM]; · iexact HM
        rw [totAt_first m c 0 rfl, show pt 0 = t from by rw [← hz, pt_val]]
        iexact HT
      iexact Hg
    isplitl [Ho]; · iexact Ho
    isplitl [H0]; · iexact H0
    isplitl [H1]; · iexact H1
    isplitl [H2]
    · iexists _; isplitr; swap; · iexact H2
      ipureintro
      exact (Rl_2 m c t _).mpr (fun h => by omega)
    iexists _; isplitr; swap; · iexact H3
    ipureintro
    exact (Rl_3 m c t _).mpr (suppGood_put m c t Y3 (fun h => by omega))
  · have hs : ¬isStart (grid0.coords t) := fun h => hz ((isStart_iff t).mp h)
    rw [Inv_pos m c _ hz]
    by_cases h0 : t.val % 4 = 0
    · have hf := (isFirst_iff t).mpr h0
      have hl : ¬isLater (grid0.coords t) := fun h => by have := (isLater_iff t).mp h; omega
      have he : ¬isLast (grid0.coords t) := fun h => by have := (isLast_iff t).mp h; omega
      iintro ⟨⟨⟨⟨%a, %ha, HA⟩, HM, HT⟩, Hg⟩, Ho, ⟨%d0, H0⟩, ⟨%d1, H1⟩, ⟨%Y2, %hY2, H2⟩, ⟨%Y3, %hY3, H3⟩⟩
      iapply (runFirst c (grid0.coords t) _ (st0_whole t) _ (st1_whole t) _ (st2_whole t) _ (st3_whole t) accM (Memref.isWhole_whole _)
        totM (Memref.isWhole_whole _) matM (Memref.isWhole_whole _) hs hf hl he (iblk m c 0 t) (iblk m c 1 t) Y2 Y3 a (k0_pay3 (F := F)) Set.univ _)
      isplitl [H0]; · iexact H0
      isplitl [H1]; · iexact H1
      isplitl [H2]; · iexact H2
      isplitl [H3]; · iexact H3
      isplitl [HA]; · iexact HA
      isplitl [HT]; · iexists _; iexact HT
      isplitl [HM]; · iexact HM
      iintro ⟨H0, H1, H2, H3, HA, HT, HM⟩
      isplitl [HA HT HM Hg]
      · isplitl [HA HT HM]
        · isplitl [HA]
          · iexists _; isplitr; swap; · iexact HA
            ipureintro
            exact accGood_put m c t a (fun h => by omega)
          isplitl [HM]; · iexact HM
          rw [totAt_first m c t.val h0, pt_val]
          iexact HT
        iexact Hg
      isplitl [Ho]; · iexact Ho
      isplitl [H0]; · iexact H0
      isplitl [H1]; · iexact H1
      isplitl [H2]
      · iexists _; isplitr; swap; · iexact H2
        ipureintro
        exact (Rl_2 m c t _).mpr (fun h => by omega)
      iexists _; isplitr; swap; · iexact H3
      ipureintro
      exact (Rl_3 m c t _).mpr (suppGood_put m c t Y3 (fun h => by omega))
    · have hf : ¬isFirst (grid0.coords t) := fun h => h0 ((isFirst_iff t).mp h)
      have h1 : 1 ≤ t.val % 4 := by omega
      have hl := (isLater_iff t).mpr h1
      by_cases h3 : t.val % 4 = 3
      · have he := (isLast_iff t).mpr h3
        iintro ⟨⟨⟨⟨%a, %ha, HA⟩, HM, HT⟩, Hg⟩, Ho, ⟨%d0, H0⟩, ⟨%d1, H1⟩, ⟨%Y2, %hY2, H2⟩, ⟨%Y3, %hY3, H3⟩⟩
        have hacc := accGood_put m c t a (fun _ => ha)
        iapply (runLast c (grid0.coords t) _ (st0_whole t) _ (st1_whole t) _ (st2_whole t) _ (st3_whole t) accM (Memref.isWhole_whole _)
          totM (Memref.isWhole_whole _) matM (Memref.isWhole_whole _) hs hf hl he (iblk m c 0 t) (iblk m c 1 t) Y2 Y3 a (totAt m c (t.val - 1)) (k0_pay3 (F := F)) Set.univ _)
        isplitl [H0]; · iexact H0
        isplitl [H1]; · iexact H1
        isplitl [H2]; · iexact H2
        isplitl [H3]; · iexact H3
        isplitl [HA]; · iexact HA
        isplitl [HT]; · iexact HT
        isplitl [HM]; · iexact HM
        iintro ⟨H0, H1, H2, H3, HA, HT, HM⟩
        isplitl [HA HT HM Hg]
        · isplitl [HA HT HM]
          · isplitl [HA]
            · iexists _; isplitr; swap; · iexact HA
              ipureintro
              exact hacc
            isplitl [HM]; · iexact HM
            rw [totAt_later m c t.val h1, pt_val]
            iexact HT
          iexact Hg
        isplitl [Ho]; · iexact Ho
        isplitl [H0]; · iexact H0
        isplitl [H1]; · iexact H1
        isplitl [H2]
        · iexists _; isplitr; swap; · iexact H2
          ipureintro
          refine (Rl_2 m c t _).mpr (fun _ => ?_)
          unfold wArr
          rw [← accGood_last m c t.val h3 _ hacc, totAt_later m c t.val h1, pt_val]
          rfl
        iexists _; isplitr; swap; · iexact H3
        ipureintro
        exact (Rl_3 m c t _).mpr (suppGood_put m c t Y3 (fun _ => finds_supp m c t h1 Y3 hY3))
      · have he : ¬isLast (grid0.coords t) := fun h => h3 ((isLast_iff t).mp h)
        iintro ⟨⟨⟨⟨%a, %ha, HA⟩, HM, HT⟩, Hg⟩, Ho, ⟨%d0, H0⟩, ⟨%d1, H1⟩, ⟨%Y2, %hY2, H2⟩, ⟨%Y3, %hY3, H3⟩⟩
        iapply (runMiddle c (grid0.coords t) _ (st0_whole t) _ (st1_whole t) _ (st2_whole t) _ (st3_whole t) accM (Memref.isWhole_whole _)
          totM (Memref.isWhole_whole _) matM (Memref.isWhole_whole _) hs hf hl he (iblk m c 0 t) (iblk m c 1 t) Y2 Y3 a (totAt m c (t.val - 1)) (k0_pay3 (F := F)) Set.univ _)
        isplitl [H0]; · iexact H0
        isplitl [H1]; · iexact H1
        isplitl [H2]; · iexact H2
        isplitl [H3]; · iexact H3
        isplitl [HA]; · iexact HA
        isplitl [HT]; · iexact HT
        isplitl [HM]; · iexact HM
        iintro ⟨H0, H1, H2, H3, HA, HT, HM⟩
        isplitl [HA HT HM Hg]
        · isplitl [HA HT HM]
          · isplitl [HA]
            · iexists _; isplitr; swap; · iexact HA
              ipureintro
              exact accGood_put m c t a (fun _ => ha)
            isplitl [HM]; · iexact HM
            rw [totAt_later m c t.val h1, pt_val]
            iexact HT
          iexact Hg
        isplitl [Ho]; · iexact Ho
        isplitl [H0]; · iexact H0
        isplitl [H1]; · iexact H1
        isplitl [H2]
        · iexists _; isplitr; swap; · iexact H2
          ipureintro
          exact (Rl_2 m c t _).mpr (fun h => absurd h h3)
        iexists _; isplitr; swap; · iexact H3
        ipureintro
        exact (Rl_3 m c t _).mpr (suppGood_put m c t Y3 (fun _ => finds_supp m c t h1 Y3 hY3))

/-- The body table's row at a point is the body on the point's buffers. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem obligation (c : Dev nD) :
    Pipeline.BodyObligationRel (dats (F := F) m 0 c) (defs₀ (F := F)) Variants.none () Set.univ outs (Rl m c) := fun t => by
  rw [bigSep_W0, bigSep_W0, defs₀_row]
  exact triple_restated (sound_body m c t) rfl .rfl fun _ => .rfl

/-- What the launch hands the region holds before the first point, -/
theorem inv_in (c : Dev nD) : Pipeline.ΦA spec0 c ⊢ (dats m 0 c).Φ 0 := by
  rw [show (dats m 0 c).Φ 0 = Pipeline.ΦA spec0 c from rfl]

/-- and what holds after the last point gives it back. -/
theorem inv_out (c : Dev nD) : (dats m 0 c).Φ (Fin.last cfg0.N) ⊢ Pipeline.ΦA spec0 c := by
  have hN : cfg0.N = 16 := N_0
  rw [show (dats m 0 c).Φ (Fin.last cfg0.N) = Inv m c cfg0.N from rfl, Inv_pos m c _ (by omega), start_eq]
  iintro ⟨⟨⟨%a, -, HA⟩, HM, HT⟩, Hg⟩
  isplitl [HA HM HT]
  · isplitl [HA]; · iexists _; iexact HA
    isplitl [HM]; · iexists _; iexact HM
    iexists _; iexact HT
  iexact Hg

/-- At the points that write an output back its block is certain. -/
theorem certain (c : Dev nD) (w : Fin cfg0.W) (hw : outs w = true) (t : Fin cfg0.N)
    (X : (cfg0.win w).block.Idx → Elt F (cfg0.win w).elt) (hf : (cfg0.win w).flush t = true) (h : Rl m c w t X) :
    X = (dats m 0 c).after w t := by
  match w, hw, X, hf, h with
  | ⟨0, _⟩, hw, _, _, _ => exact absurd hw Bool.false_ne_true
  | ⟨1, _⟩, hw, _, _, _ => exact absurd hw Bool.false_ne_true
  | ⟨2, _⟩, _, X, hf, h => exact (Rl_2 m c t X).mp h ((flush0_2 t).mp hf)
  | ⟨3, _⟩, _, X, hf, h => exact suppGood_last m c t.val ((flush0_3 t).mp hf) X ((Rl_3 m c t X).mp h)

variable (ρ : Dev nD → PrngReg)

/-- The run of the whole program: the arrays as the proof data say, the host's results computed from them, every
    semaphore at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  launch_held m ρ (dats m) outs (Rl m) (certain m) (obligation m) (fun c => (dats m 0 c).share_full fun _ => rfl)
    (fun _ _ => rfl) (A_eq m) (inv_in m) (inv_out m)

end Cert.KernelIdeal.Hand

end
-- ==== Proof.Frame.lean ====
/-
  The kernel's frame, at any float values: it runs, its arguments end as they began, its counters end at zero.
-/
module

public import proofs.«01_k».proof.Proof.Oblig
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The kernel runs and ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Hand

end
-- ==== Proof.Equation.lean ====
/-
  The equation: the kernel's two results are the reference's, entry by entry, and how the two programs end.
-/
module

public import proofs.«01_k».proof.Proof.Value
public import proofs.«01_k».proof.Proof.Ref
public import proofs.«01_k».proof.Proof.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- The support grid the kernel leaves is the reference's of the kernel's arguments. -/
theorem support_eq (c : Dev nD) : Pipeline.afterTail₀ cfgs (dats m) 0 (V0 m) [hostOps1] c main_v34
    = Cert.ReferenceIdeal.Hand.supp (F := Ideal) (xEnds m c) (yEnds m c) (shifts m c) := by
  rw [res_34]
  funext j
  rw [eq_ix3 j]
  exact (kernel_support m c (j 0) (j 1) (j 2)).trans
    (Cert.ReferenceIdeal.Hand.supp_apply (xEnds m c) (yEnds m c) (shifts m c) (j 0) (j 1) (j 2)).symm

/-- The weights the kernel leaves are the reference's of the kernel's histogram. -/
theorem weights_eq (c : Dev nD) : Pipeline.afterTail₀ cfgs (dats m) 0 (V0 m) [hostOps1] c main_v35
    = Cert.ReferenceIdeal.Hand.weights (F := Ideal) (hist m c) := by
  rw [res_35]
  funext j
  rw [eq_ix2 j]
  exact (kernel_weight m c (j 0) (j 1)).trans (Cert.ReferenceIdeal.Hand.weights_apply (hist m c) (j 0) (j 1)).symm

/-- The kernel runs and ends with the reference's support grid and weights of its own arguments. -/
theorem results : θ_run defs (onTc (τ := τ) (main (F := Ideal))) ⟨m, fun _ => 0, ρ⟩ (fun r => ∀ c : Dev nD,
      r.2.mem ((c.tc : Thread nD τ).loc main_v34) = Cert.ReferenceIdeal.Hand.supp (F := Ideal) (xEnds m c) (yEnds m c) (shifts m c)
      ∧ r.2.mem ((c.tc : Thread nD τ).loc main_v35) = Cert.ReferenceIdeal.Hand.weights (F := Ideal) (hist m c)) :=
  (θ_run defs _ _).mono (fun _ h c =>
    ⟨(h.1.rest_eq c main_v34 (Pipeline.mem_restRefs_of main_v34 (by decide) (by decide))).trans (support_eq m c),
      (h.1.rest_eq c main_v35 (Pipeline.mem_restRefs_of main_v35 (by decide) (by decide))).trans (weights_eq m c)⟩) (run_all m ρ)

end Cert.KernelIdeal.Hand

end
-- ==== Proof.Version.Frame.lean ====
/-
  The kernel's frame, at any float values: it runs, its arguments end as they began, its counters end at zero.

  Stated here of the printed version itself; the module of the same name one directory up says it of its ideal copy.
-/
module

public import proofs.«01_k».proof.Proof.Version.Oblig
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The kernel runs and ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Kernel.Hand

end
-- ==== Proof.lean ====
/-
  The five claims, from the modules: the version's kernel and its copy over the extended reals run and leave their
  arguments and counters; so does the reference; and the kernel's two results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import proofs.«01_k».proof.Proof.Version.Frame
public import Idealize.ShloMosaic.Adequacy
public import Idealize.ShloMosaic.Init

@[expose] public section

noncomputable section

namespace Cert.Proof

open Idealize.ShloMosaic Idealize.SL.Sem

/-- The version's kernel runs, leaves its arguments, and its counters end at zero. -/
theorem version_frame : Cert.quiescent_Kernel (hKernel := Cert.Kernel.Gen.facts) :=
  fun m ρ _ => Cert.Kernel.Hand.frame m ρ

/-- The kernel over the extended reals runs, leaves its arguments, and its counters end at zero. -/
theorem kernel_frame : Cert.quiescent_KernelIdeal (hKernelIdeal := Cert.KernelIdeal.Gen.facts) :=
  fun m ρ _ => Cert.KernelIdeal.Hand.frame m ρ

/-- So does the reference. -/
theorem reference_frame : Cert.quiescent_ReferenceIdeal (hReferenceIdeal := Cert.ReferenceIdeal.Gen.facts) :=
  fun m ρ _ => (θ_run _ _ _).mono (fun _ h => ⟨fun c => (h.1 c).2.2, h.2⟩) (Cert.ReferenceIdeal.Hand.run_all m ρ)

/-- From equal arguments the kernel and the reference end with equal results. -/
theorem equal_results : Cert.algebraic_KernelIdeal_ReferenceIdeal (hKernelIdeal := Cert.KernelIdeal.Gen.facts)
    (hReferenceIdeal := Cert.ReferenceIdeal.Gen.facts) := by
  intro m ρ m' ρ' _ hm
  refine ⟨_, _, (θ_run _ _ _).mono (fun _ h c => ⟨(h.1 c).1, (h.1 c).2, h.2.1 c⟩)
    (θ_run_and (Cert.KernelIdeal.Hand.results m ρ) (Cert.KernelIdeal.Hand.frame m ρ)),
    (θ_run _ _ _).mono (fun r h c => ?_) (Cert.ReferenceIdeal.Hand.run_all m' ρ')⟩
  obtain ⟨h0, h1, h2, h3⟩ := hm c
  obtain ⟨hs, hw, hargs⟩ := h.1 c
  refine ⟨hs.trans ?_, hw.trans ?_, hargs⟩
  · rw [h1, h2, h3]
  · rw [h0]

/-- The claims. -/
theorem claim : Cert.Claim := ⟨Cert.Kernel.Gen.facts, Cert.KernelIdeal.Gen.facts, Cert.ReferenceIdeal.Gen.facts,
  version_frame, kernel_frame, reference_frame, trivial, equal_results⟩

end Cert.Proof

end
